-- ==== Defs.lean ====
def Pre_Kernel [hPre_token_in_table : Cert.Pre_token_in_table.Facts] (m : (ℓ : Loc Cert.Kernel.nD Cert.Kernel.τ Cert.Kernel.sig) → Buf (Elt Bits) ℓ) : Prop :=
  ∀ c : Dev Cert.Kernel.nD,
    (Cert.Pre_token_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_token_in_table : Cert.Pre_token_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_token_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_token_in_table [hPre_token_in_table : Cert.Pre_token_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_token_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_token_in_table : Cert.Pre_token_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_token_in_table : Cert.Pre_token_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_token_in_table [hReferenceIdeal : Cert.ReferenceIdeal.Facts] [hPre_token_in_table : Cert.Pre_token_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_token_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_token_in_table : Cert.Pre_token_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v6_1)) (v3 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v6_1) = v2 c
          ∧ r.2.mem ((c.tc : Thread Cert.KernelIdeal.nD Cert.KernelIdeal.τ).loc Cert.KernelIdeal.main_v6_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_token_in_table : Cert.Pre_token_in_table.Facts),
    quiescent_Kernel (hKernel := hKernel) (hPre_token_in_table := hPre_token_in_table)
    ∧ quiescent_KernelIdeal (hKernelIdeal := hKernelIdeal) (hPre_token_in_table := hPre_token_in_table)
    ∧ quiescent_ReferenceIdeal (hReferenceIdeal := hReferenceIdeal)
    ∧ quiescent_ReferenceIdeal_pre_token_in_table (hReferenceIdeal := hReferenceIdeal) (hPre_token_in_table := hPre_token_in_table)
    ∧ preserves_Kernel_KernelIdeal
    ∧ algebraic_KernelIdeal_ReferenceIdeal (hKernelIdeal := hKernelIdeal) (hReferenceIdeal := hReferenceIdeal) (hPre_token_in_table := hPre_token_in_table)
-- ==== Pre_token_in_table.lean ====
abbrev S1000000 : Shape := ⟨1, ![1000000]⟩
abbrev S900000x64 : Shape := ⟨2, ![900000, 64]⟩
abbrev S64 : Shape := ⟨1, ![64]⟩
abbrev S_ : Shape := ⟨0, ![]⟩

class Facts : Prop where

variable [Facts]

def fn {F : FTy → Type} [FloatOps F] (main_arg0 : FVec F S1000000 .f32) (main_arg1 : FVec F S1000000 .f32) (main_arg2 : FVec F S900000x64 .f32) (main_arg3 : FVec F S64 .f32) (main_arg4 : IVec S_ 32) : IVec S_ 1 :=
  let main_c : IVec S_ 32 := constantI S_ 32 100000#32
  let main_v0 : IVec S_ 1 := cmpi .sge main_arg4 main_c
  let main_c_0 : IVec S_ 32 := constantI S_ 32 999936#32
  let main_v1 : IVec S_ 1 := cmpi .slt main_arg4 main_c_0
  let main_v2 : IVec S_ 1 := andi main_v0 main_v1
  main_v2
-- ==== Kernel.lean ====
abbrev S1000000 : Shape := ⟨1, ![1000000]⟩
abbrev S900000x64 : Shape := ⟨2, ![900000, 64]⟩
abbrev S64 : Shape := ⟨1, ![64]⟩
abbrev S_ : Shape := ⟨0, ![]⟩
abbrev S1 : Shape := ⟨1, ![1]⟩
abbrev S64x900000 : Shape := ⟨2, ![64, 900000]⟩
abbrev S64x1 : Shape := ⟨2, ![64, 1]⟩
abbrev S1x64x1x1 : Shape := ⟨4, ![1, 64, 1, 1]⟩
abbrev S1x64x128x1 : Shape := ⟨4, ![1, 64, 128, 1]⟩
abbrev S64x128 : Shape := ⟨2, ![64, 128]⟩
abbrev S512 : Shape := ⟨1, ![512]⟩
abbrev S1x512 : Shape := ⟨2, ![1, 512]⟩

abbrev nBuf : Space → Nat
  | .hbm => 18
  | .vmem => 4
  | .smem => 1
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S900000x64, .f32⟩
  | .hbm, ⟨3, _⟩ => ⟨S64, .f32⟩
  | .hbm, ⟨4, _⟩ => ⟨S_, .i32⟩
  | .hbm, ⟨5, _⟩ => ⟨S1, .i32⟩
  | .hbm, ⟨6, _⟩ => ⟨S64x900000, .f32⟩
  | .hbm, ⟨7, _⟩ => ⟨S64x1, .f32⟩
  | .hbm, ⟨8, _⟩ => ⟨S1x64x1x1, .f32⟩
  | .hbm, ⟨9, _⟩ => ⟨S1x64x128x1, .f32⟩
  | .hbm, ⟨10, _⟩ => ⟨S64x128, .f32⟩
  | .hbm, ⟨11, _⟩ => ⟨S64x900000, .f32⟩
  | .hbm, ⟨12, _⟩ => ⟨S1000000, .f32⟩
  | .hbm, ⟨13, _⟩ => ⟨S1000000, .f32⟩
  | .hbm, ⟨14, _⟩ => ⟨S64x128, .f32⟩
  | .hbm, ⟨15, _⟩ => ⟨S64x1, .f32⟩
  | .hbm, ⟨16, _⟩ => ⟨S64, .f32⟩
  | .hbm, ⟨17, _⟩ => ⟨S900000x64, .f32⟩
  | .local _ .vmem, ⟨0, _⟩ => ⟨S64x128, .f32⟩
  | .local _ .vmem, ⟨1, _⟩ => ⟨S64x128, .f32⟩
  | .local _ .vmem, ⟨2, _⟩ => ⟨S512, .f32⟩
  | .local _ .vmem, ⟨3, _⟩ => ⟨S512, .f32⟩
  | .local _ .smem, ⟨0, _⟩ => ⟨S1, .i32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

def k0_mult1 (v0 : BitVec 32) : BitVec 32 :=
  let c100000_i32 : BitVec 32 := 100000#32
  let v1 : BitVec 32 := Scalar.subi v0 c100000_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  v19

def k0_off1 (v0 : BitVec 32) : Fin 2 → Nat :=
  let c0_i32_5 : BitVec 32 := 0#32
  let c100000_i32 : BitVec 32 := 100000#32
  let v1 : BitVec 32 := Scalar.subi v0 c100000_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  ![0, v20.toNat]
def k0_off2 (v0 : BitVec 32) : Fin 1 → Nat :=
  let c0_i32_6 : BitVec 32 := 0#32
  let v23 : BitVec 1 := Scalar.cmpi .sgt v0 c0_i32_6
  let v24 : BitVec 32 := Scalar.extui v23
  let c0_i32_7 : BitVec 32 := 0#32
  let v25 : BitVec 1 := Scalar.cmpi .slt v0 c0_i32_7
  let v26 : BitVec 32 := Scalar.extui v25
  let v27 : BitVec 32 := Scalar.subi v24 v26
  let c512_i32 : BitVec 32 := 512#32
  let c0_i32_8 : BitVec 32 := 0#32
  let v28 : BitVec 1 := Scalar.cmpi .sgt c512_i32 c0_i32_8
  let v29 : BitVec 32 := Scalar.extui v28
  let c0_i32_9 : BitVec 32 := 0#32
  let v30 : BitVec 1 := Scalar.cmpi .slt c512_i32 c0_i32_9
  let v31 : BitVec 32 := Scalar.extui v30
  let v32 : BitVec 32 := Scalar.subi v29 v31
  let v33 : BitVec 1 := Scalar.cmpi .ne v27 v32
  let v34 : BitVec 32 := Scalar.remsi v0 c512_i32
  let c0_i32_10 : BitVec 32 := 0#32
  let v35 : BitVec 1 := Scalar.cmpi .ne v34 c0_i32_10
  let v36 : BitVec 1 := Scalar.andi v33 v35
  let v22 : BitVec 32 := Scalar.divsi v0 c512_i32
  let c1_i32_11 : BitVec 32 := 1#32
  let v37 : BitVec 32 := Scalar.subi v22 c1_i32_11
  let v38 : BitVec 32 := Scalar.select v36 v37 v22
  let c512_i32_12 : BitVec 32 := 512#32
  let v39 : BitVec 32 := Scalar.muli v38 c512_i32_12
  ![v39.toNat]

def k0_chk1 (v0 : BitVec 32) : Prop :=
  (128 ∣ (k0_mult1 v0).toNat) ∧
  (∀ a, (k0_off1 v0) a + S64x128.size a ≤ S64x900000.size a) ∧
  (∀ a, (k0_off2 v0) a + S512.size a ≤ S1000000.size a)
theorem k0_mult1_dvd : ∀ (v0 : BitVec 32) (k0_hw1 : k0_chk1 v0), 128 ∣ (k0_mult1 v0).toNat := fun v0 k0_hw1 => k0_hw1.1
theorem k0_off1_inb : ∀ (v0 : BitVec 32) (k0_hw1 : k0_chk1 v0), ∀ a, (k0_off1 v0) a + S64x128.size a ≤ S64x900000.size a := fun v0 k0_hw1 => k0_hw1.2.1
theorem k0_off2_inb : ∀ (v0 : BitVec 32) (k0_hw1 : k0_chk1 v0), ∀ a, (k0_off2 v0) a + S512.size a ≤ S1000000.size a := fun v0 k0_hw1 => k0_hw1.2.2

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1000000 : Shape := ⟨1, ![1000000]⟩
abbrev S900000x64 : Shape := ⟨2, ![900000, 64]⟩
abbrev S64 : Shape := ⟨1, ![64]⟩
abbrev S_ : Shape := ⟨0, ![]⟩
abbrev S1 : Shape := ⟨1, ![1]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S900000x64, .f32⟩
  | .hbm, ⟨3, _⟩ => ⟨S64, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1, .i32⟩
  | .hbm, ⟨13, _⟩ => ⟨S900000x64, .f32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1, .i32⟩
  | .hbm, ⟨20, _⟩ => ⟨S_, .f32⟩
  | .hbm, ⟨21, _⟩ => ⟨S1000000, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1, .i32⟩
  | .hbm, ⟨28, _⟩ => ⟨S_, .f32⟩
  | .hbm, ⟨29, _⟩ => ⟨S1000000, .f32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x64, .f32⟩
  | .hbm, ⟨44, _⟩ => ⟨S64, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_c_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_c_5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_c_7 : Ref sig .tc := ⟨.hbm, 30, rfl⟩
abbrev main_v16 : Ref sig .tc := ⟨.hbm, 31, rfl⟩
abbrev main_c_8 : Ref sig .tc := ⟨.hbm, 32, rfl⟩
abbrev main_v17 : Ref sig .tc := ⟨.hbm, 33, rfl⟩
abbrev main_v18 : Ref sig .tc := ⟨.hbm, 34, rfl⟩
abbrev main_c_9 : Ref sig .tc := ⟨.hbm, 35, rfl⟩
abbrev main_c_10 : Ref sig .tc := ⟨.hbm, 36, rfl⟩
abbrev main_v19 : Ref sig .tc := ⟨.hbm, 37, rfl⟩
abbrev main_c_11 : Ref sig .tc := ⟨.hbm, 38, rfl⟩
abbrev main_c_12 : Ref sig .tc := ⟨.hbm, 39, rfl⟩
abbrev main_v20 : Ref sig .tc := ⟨.hbm, 40, rfl⟩
abbrev main_c_13 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Proof.BitsEnds.lean ====
module

public import proofs.«01_k».proof.Proof.BitsRun
public import proofs.«01_k».proof.Proof.BitsWords
public import Idealize.ShloMosaic.Lib.StableHlo.ReadAt
public import Idealize.ShloMosaic.Lib.Pointwise

@[expose] public section

/-! What the program's arrays hold at its end: the arguments unchanged. -/

set_option maxRecDepth 16384

noncomputable section

namespace Cert.Kernel.Hand

open Cert.Kernel Cert.Kernel.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-! ## What the kernel is launched on -/

/-- The kernel is launched on the token as a one-element array. -/
theorem V_v0 (c : Dev nD) : V m c main_v0 = shapeCast S1 (m ((c : Thread nD τ).loc main_arg4) : S_.Idx → BitVec 32) shapeCasts_S_S1 := by
  unfold V V0
  after_reads_simp
  rfl
/-- The token the kernel reads is the program's argument. -/
theorem tok_eq (c : Dev nD) (i : S_.Idx) : tok m c = (m ((c : Thread nD τ).loc main_arg4) : S_.Idx → BitVec 32) i := by
  have e := V_v0 m c
  unfold tok tokOf iblk
  show (V m c main_v0 : S1.Idx → BitVec 32) _ = _
  rw [e]
  exact congrArg (m ((c : Thread nD τ).loc main_arg4) : S_.Idx → BitVec 32) (funext fun a => a.elim0)

variable (hchk : ∀ c : Dev nD, k0_chk1 (tok m c))

/-! ## The argument arrays end unchanged -/

/-- A buffer that the lines after the kernel do not write, that the kernel does not write and that is not staged ends as
    the kernel found it. -/
theorem end_of (c : Dev nD) (b : Ref sig .tc) (h7 : b ≠ main_v7) (h8 : b ≠ main_v8) (h9 : b ≠ main_v9)
    (hw : ∀ w, Pipeline.arrRef spec0 w ≠ b) (X : Buf (Elt F) ((c : Thread nD τ).loc b))
    (hX : Pipeline.withR (V0 m c) R0 c (G m hchk c) (Proc.devRef .tc b) = X) :
    StableHlo.after hostOps1 (V1 m hchk c) (Proc.devRef .tc b) = X := by
  unfold V1
  rw [StableHlo.after_of_forall_not_mem (b := Proc.devRef .tc b) _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes, Finset.mem_singleton]
      exact ⟨StableHlo.devRef_ne_of_ne h7, StableHlo.devRef_ne_of_ne h8, StableHlo.devRef_ne_of_ne h9⟩)),
    Pipeline.withArrays_of_ne _ c _ _ b hw]
  exact hX

include hchk in
/-- The program ends, its five arguments are as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ hchk)
  refine ⟨?_, ?_, ?_, ?_, ?_⟩
  · exact (h.1 c main_arg0 (Pipeline.mem_restRefs_of _ (by decide) (by decide))).trans
      (end_of m hchk c main_arg0 (by decide) (by decide) (by decide) (by decide) _
        ((Pipeline.withR_of_not_mem _ _ c _ main_arg0 (by decide)).trans (V_main_arg0 m c)))
  · exact (h.1 c main_arg1 (Pipeline.mem_restRefs_of _ (by decide) (by decide))).trans
      (end_of m hchk c main_arg1 (by decide) (by decide) (by decide) (by decide) _
        ((Pipeline.withR_of_not_mem _ _ c _ main_arg1 (by decide)).trans (V_main_arg1 m c)))
  · exact (h.1 c main_arg2 (Pipeline.mem_restRefs_of _ (by decide) (by decide))).trans
      (end_of m hchk c main_arg2 (by decide) (by decide) (by decide) (by decide) _
        ((Pipeline.withR_of_not_mem _ _ c _ main_arg2 (by decide)).trans (V_main_arg2 m c)))
  · exact (h.1 c main_arg3 (Pipeline.mem_restRefs_of _ (by decide) (by decide))).trans
      (end_of m hchk c main_arg3 (by decide) (by decide) (by decide) (by decide) _
        ((Pipeline.withR_of_not_mem _ _ c _ main_arg3 (by decide)).trans (V_main_arg3 m c)))
  · exact (h.1 c main_arg4 (Pipeline.mem_restRefs_of _ (by decide) (by decide))).trans
      (end_of m hchk c main_arg4 (by decide) (by decide) (by decide) (by decide) _
        ((Pipeline.withR_of_not_mem _ _ c _ main_arg4 (by decide)).trans (V_main_arg4 m c)))

end Cert.Kernel.Hand
end
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp

@[expose] public section

/-! One run of the kernel's body: the contents that it leaves in its buffers, and the proof that it leaves them. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The transposed embedding table, that the kernel updates in place. -/
abbrev mEmb : Memref sig .tc .hbm S64x900000 .f32 := Memref.whole main_v6_0
/-- The usage counts, that the kernel updates in place. -/
abbrev mUse : Memref sig .tc .hbm S1000000 .f32 := Memref.whole main_v6_1
/-- The creation times, that the kernel updates in place. -/
abbrev mTim : Memref sig .tc .hbm S1000000 .f32 := Memref.whole main_v6_2
/-- The new row, repeated over 128 lanes, that the kernel only reads. -/
abbrev mNew : Memref sig .tc .hbm S64x128 .f32 := Memref.whole main_v5
/-- The array that the kernel returns the new row in. -/
abbrev mRow : Memref sig .tc .hbm S64x128 .f32 := Memref.whole main_v6_3
/-- The scratch buffer for the new row. -/
abbrev mN : Memref sig .tc .vmem S64x128 .f32 := Memref.whole cc0_scratch0
/-- The scratch buffer for the window of the embedding table. -/
abbrev mT : Memref sig .tc .vmem S64x128 .f32 := Memref.whole cc0_scratch1
/-- The scratch buffer for the window of the usage counts. -/
abbrev mU : Memref sig .tc .vmem S512 .f32 := Memref.whole cc0_scratch2
/-- The scratch buffer for the window of the creation times. -/
abbrev mC : Memref sig .tc .vmem S512 .f32 := Memref.whole cc0_scratch3

/-- The whole buffer under `M` is owned and holds `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- Owning a buffer at some contents is owning it at any contents shown equal to them. -/
theorem pt_of_eq {c : Dev nD} {sp : Space} {S : Shape} {e : EltTy} {M : Memref sig .tc sp S e}
    {f g : Buf (Elt F) (M.view.loc (c : Thread nD τ))} (h : f = g) : pt c M f ⊢ pt c M g := by
  subst h; exact .rfl

/-- The origin of a one-axis array, written out, is zero on every axis. -/
theorem zero1 : (![0] : Fin 1 → ℕ) = fun _ => 0 := by decide
/-- The origin of a two-axis array, written out, is zero on every axis. -/
theorem zero2 : (![0, 0] : Fin 2 → ℕ) = fun _ => 0 := by decide

/-- One store over a whole buffer leaves its payload. -/
theorem read_writes_one (b : Ref sig .tc) {off : Fin b.ty.shape.rank → ℕ} (h : off = fun _ => 0)
    (inb : ∀ a, off a + b.ty.shape.size a ≤ b.ty.shape.size a) (f x : b.ty.Contents (Elt F)) :
    View.read (Elt F) (Memref.whole b : Memref sig .tc _ _ _).view
      (View.writes (Memref.whole b : Memref sig .tc _ _ _).view (Elt F) f [⟨Rect.unit off b.ty.shape.size inb, x⟩]) = x :=
  Memref.write_access_unit_zero_univ (Elt F) b h inb f x

/-- A load of a whole buffer that was just overwritten reads what was written. -/
theorem readAt_write_one (b : Ref sig .tc) {off : Fin b.ty.shape.rank → ℕ} (h : off = fun _ => 0)
    (inb : ∀ a, off a + b.ty.shape.size a ≤ b.ty.shape.size a) (f x : b.ty.Contents (Elt F)) :
    View.readAt (Elt F) (Memref.whole b : Memref sig .tc _ _ _).view (Rect.unit off b.ty.shape.size inb).toLoadRect
      (View.write (Elt F) (Memref.whole b : Memref sig .tc _ _ _).view f x Finset.univ) = x :=
  (Memref.readAt_unit_zero (Elt F) b h inb _).trans (View.write_whole_univ _ _ _)

/-- The token's position past the 100000 rows of the first table. -/
def expIdx (v0 : BitVec 32) : BitVec 32 := Scalar.subi v0 100000#32

/-- Division of words rounded towards minus infinity, as the kernel computes it: the quotient, less one where the
    signs differ and the remainder is not zero. -/
def fdiv (x k : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt k 0#32)) (Scalar.extui (Scalar.cmpi .slt k 0#32))))
      (Scalar.cmpi .ne (Scalar.remsi x k) 0#32))
    (Scalar.subi (Scalar.divsi x k) 1#32) (Scalar.divsi x k)

/-- The number of the 512-wide block of the usage vectors that the token lies in. -/
def blockNo (v0 : BitVec 32) : BitVec 32 := fdiv v0 512#32

/-- The window of the transposed embedding table that holds the token's column. -/
abbrev wEmb (v0 : BitVec 32) (h : k0_chk1 v0) : Memref sig .tc .hbm S64x128 .f32 :=
  mEmb.slice (Rect.unit (s := S64x900000) (k0_off1 v0) S64x128.size (k0_off1_inb v0 h)) (fun _ => rfl)
/-- The window of the usage vector that holds the token's entry. -/
abbrev wUse (v0 : BitVec 32) (h : k0_chk1 v0) : Memref sig .tc .hbm S512 .f32 :=
  mUse.slice (Rect.unit (s := S1000000) (k0_off2 v0) S512.size (k0_off2_inb v0 h)) (fun _ => rfl)
/-- The window of the creation-time vector that holds the token's entry. -/
abbrev wTim (v0 : BitVec 32) (h : k0_chk1 v0) : Memref sig .tc .hbm S512 .f32 :=
  mTim.slice (Rect.unit (s := S1000000) (k0_off2 v0) S512.size (k0_off2_inb v0 h)) (fun _ => rfl)

/-- The embedding table the kernel leaves: the table it found with one window rewritten. -/
def gEmb (v0 : BitVec 32) (h : k0_chk1 v0) (fE : S64x900000.Idx → Elt F .f32) (fW : S64x128.Idx → Elt F .f32) :
    S64x900000.Idx → Elt F .f32 :=
  (wEmb v0 h).view.write (Elt F) fE (k0_pay2 (expIdx v0) (k0_mult1 v0) fW ((wEmb v0 h).view.read (Elt F) fE)) Finset.univ
/-- The usage vector the kernel leaves: the one it found with one window rewritten. -/
def gUse (v0 : BitVec 32) (h : k0_chk1 v0) (fU : S1000000.Idx → Elt F .f32) : S1000000.Idx → Elt F .f32 :=
  (wUse v0 h).view.write (Elt F) fU (k0_pay4 v0 (blockNo v0) ((wUse v0 h).view.read (Elt F) fU)) Finset.univ
/-- The creation-time vector the kernel leaves: the one it found with one window rewritten. -/
def gTim (v0 : BitVec 32) (h : k0_chk1 v0) (fT : S1000000.Idx → Elt F .f32) : S1000000.Idx → Elt F .f32 :=
  (wTim v0 h).view.write (Elt F) fT (k0_pay1 (k0_pay5 v0 (blockNo v0) ((wTim v0 h).view.read (Elt F) fT))) Finset.univ

/-- The word read out of the staged one-element array. -/
def word (c : Dev nD) (arg0 : Memref sig .tc .smem S1 .i32) (f0 : Buf (Elt F) (arg0.view.loc (c : Thread nD τ))) : BitVec 32 :=
  View.readAt (Elt F) arg0.view (Rect.unit (s := S1) ![0] S1.size inb_S1_S1_0).toLoadRect f0 (Shape.Idx.first (numel1_S1.symm ▸ Nat.one_pos))

set_option sl_exec.lendShare "HN" in
set_option maxHeartbeats 4000000 in
/-- The kernel's body, for a token whose windows lie inside the arrays: run on any contents of its buffers, it ends with the table,
    the counts and the times updated at the token, the new row copied out, and every counter of its four semaphores at zero. -/
theorem run (c : Dev nD) (arg0 : Memref sig .tc .smem S1 .i32) (harg0 : arg0.IsWhole)
    (f0 : Buf (Elt F) (arg0.view.loc (c : Thread nD τ)))
    (v : BitVec 32) (hv : word c arg0 f0 = v) (hchk : k0_chk1 v)
    (fE : Buf (Elt F) (mEmb.view.loc (c : Thread nD τ))) (fU : Buf (Elt F) (mUse.view.loc (c : Thread nD τ)))
    (fT : Buf (Elt F) (mTim.view.loc (c : Thread nD τ))) (fW : Buf (Elt F) (mNew.view.loc (c : Thread nD τ)))
    (fR : Buf (Elt F) (mRow.view.loc (c : Thread nD τ)))
    (s0 : Buf (Elt F) (mN.view.loc (c : Thread nD τ))) (s1 : Buf (Elt F) (mT.view.loc (c : Thread nD τ)))
    (s2 : Buf (Elt F) (mU.view.loc (c : Thread nD τ))) (s3 : Buf (Elt F) (mC.view.loc (c : Thread nD τ)))
    (W : Waits sig Unit) (K : PUnit → sProp 𝕄) :
    iprop((arg0.view.loc (c : Thread nD τ) ↦[arg0.view.set]{fullShare} f0)
      ∗ pt c mEmb fE ∗ pt c mUse fU ∗ pt c mTim fT ∗ pt c mNew fW ∗ pt c mRow fR
      ∗ pt c mN s0 ∗ pt c mT s1 ∗ pt c mU s2 ∗ pt c mC s3
      ∗ semVal ((c : Thread nD τ), SemLoc.dma 1) 0 ∗ semVal ((c : Thread nD τ), SemLoc.dma 2) 0
      ∗ semVal ((c : Thread nD τ), SemLoc.dma 3) 0 ∗ semVal ((c : Thread nD τ), SemLoc.dma 4) 0
      ∗ owes (c : Thread nD τ) 0 W
      ∗ ((arg0.view.loc (c : Thread nD τ) ↦[arg0.view.set]{fullShare} f0)
        ∗ pt c mEmb (gEmb v hchk fE fW) ∗ pt c mUse (gUse v hchk fU)
        ∗ pt c mTim (gTim v hchk fT) ∗ pt c mNew fW ∗ pt c mRow fW
        ∗ (∃ s, pt c mN s) ∗ (∃ s, pt c mT s) ∗ (∃ s, pt c mU s) ∗ (∃ s, pt c mC s)
        ∗ semVal ((c : Thread nD τ), SemLoc.dma 1) 0 ∗ semVal ((c : Thread nD τ), SemLoc.dma 2) 0
        ∗ semVal ((c : Thread nD τ), SemLoc.dma 3) 0 ∗ semVal ((c : Thread nD τ), SemLoc.dma 4) 0
        ∗ (∃ W', owes (c : Thread nD τ) 0 W') -∗ K ⟨⟩))
    ⊢ wp frame (wpE (defs₀ (F := F)) Variants.none c none) Set.univ
        (cc0__body arg0 harg0 mEmb (Memref.isWhole_whole _) mUse (Memref.isWhole_whole _) mTim (Memref.isWhole_whole _)
          mNew (Memref.isWhole_whole _) mEmb (Memref.isWhole_whole _) mUse (Memref.isWhole_whole _) mTim (Memref.isWhole_whole _)
          mRow (Memref.isWhole_whole _) mN (Memref.isWhole_whole _) mT (Memref.isWhole_whole _) mU (Memref.isWhole_whole _)
          mC (Memref.isWhole_whole _) cc0_scratch4 cc0_scratch5 cc0_scratch6 cc0_scratch7) K := by
  subst hv
  simp only [cc0__body_eq_skeleton]
  unfold cc0__body_skel
  simp only [k0_part1_eq_skeleton, k0_part2_eq_skeleton]
  unfold k0_part1_skel k0_part2_skel
  unfold word at hchk
  iintro ⟨H0, HE, HU, HT, HW, HR, HN, HB, HC, HD, Q1, Q2, Q3, Q4, HO, Hk⟩
  sl_exec
  sl_step
  iapply Hk
  isplitl [H0]; · iexact H0
  isplitl [HE]
  · iapply (pt_of_eq ?_) $$ HE
    unfold run.sl.HE_w5 gEmb
    refine congrArg (fun p => View.write (Elt F) (wEmb (word c arg0 f0) hchk).view fE p Finset.univ) ?_
    unfold run.sl.dma5
    unfold run.sl.HB_1
    refine (read_writes_one cc0_scratch1 zero2 _ _ _).trans ?_
    refine congrArg₂ (k0_pay2 (F := F) (expIdx (word c arg0 f0)) (k0_mult1 (word c arg0 f0)))
      ((readAt_write_one cc0_scratch0 zero2 _ _ _).trans ?_) ((readAt_write_one cc0_scratch1 zero2 _ _ _).trans ?_)
    · rfl
    · rfl
  isplitl [HU]
  · iapply (pt_of_eq ?_) $$ HU
    unfold run.sl.HU_w6 gUse
    refine congrArg (fun p => View.write (Elt F) (wUse (word c arg0 f0) hchk).view fU p Finset.univ) ?_
    unfold run.sl.dma8
    unfold run.sl.HC_1
    refine (read_writes_one cc0_scratch2 zero1 _ _ _).trans ?_
    refine congrArg (k0_pay4 (F := F) (word c arg0 f0) (blockNo (word c arg0 f0)))
      ((readAt_write_one cc0_scratch2 zero1 _ _ _).trans ?_)
    rfl
  isplitl [HT]
  · iapply (pt_of_eq ?_) $$ HT
    unfold run.sl.HT_w7 gTim
    refine congrArg (fun p => View.write (Elt F) (wTim (word c arg0 f0) hchk).view fT p Finset.univ) ?_
    unfold run.sl.dma11
    unfold run.sl.HD_1
    refine (read_writes_one cc0_scratch3 zero1 _ _ _).trans ?_
    refine congrArg (fun x => k0_pay1 (k0_pay5 (F := F) (word c arg0 f0) (blockNo (word c arg0 f0)) x))
      ((readAt_write_one cc0_scratch3 zero1 _ _ _).trans ?_)
    rfl
  isplitl [HW]; · iexact HW
  isplitl [HR]
  · iapply (pt_of_eq ?_) $$ HR
    unfold run.sl.dma1_4 run.sl.dma1
    simp only [View.read_write_univ, View.write_whole_univ]
    exact View.write_whole_univ _ _ _
  isplitl [HN]; · iexists _; iexact HN
  isplitl [HB]; · iexists _; iexact HB
  isplitl [HC]; · iexists _; iexact HC
  isplitl [HD]; · iexists _; iexact HD
  isplitl [Q1]; · iexact Q1
  isplitl [Q2]; · iexact Q2
  isplitl [Q3]; · iexact Q3
  isplitl [Q4]; · iexact Q4
  iexists _; iexact HO

end Cert.KernelIdeal.Hand
end
-- ==== Proof.Words.lean ====
module

public import proofs.«01_k».proof.Proof.Body
public import Idealize.ShloMosaic.Lib.Affine

@[expose] public section

/-! What the kernel's index words are, for a token whose windows lie inside the arrays. -/

namespace Cert.KernelIdeal.Hand

open Cert.KernelIdeal Cert.KernelIdeal.Gen
open Idealize.ShloMosaic Idealize.ShloMosaic.Affine

/-- The rounded division of a nonnegative word by a positive one is the quotient. -/
theorem fdiv_isInt {x k : BitVec 32} {X K : Int} (hx : IsInt x X) (hk : IsInt k K) (h0 : 0 ≤ X) (h1 : X < 2 ^ 31)
    (hK : 0 < K) : IsInt (fdiv x k) (X / K) := by
  have hz : IsInt 0#32 0 := ofNat 0 (by decide)
  have ho : IsInt 1#32 1 := ofNat 1 (by decide)
  have hd : IsInt (Scalar.divsi x k) (X / K) := divsi hx hk ⟨rfl, h0, hK⟩
  have hr : IsInt (Scalar.remsi x k) (X % K) := remsi hx hk ⟨rfl, h0, hK⟩
  have hq0 : 0 ≤ X / K := Int.ediv_nonneg h0 (le_of_lt hK)
  have hq1 : X / K ≤ X := Int.ediv_le_self K h0
  have hkk : IsInt (Scalar.subi (Scalar.extui (Scalar.cmpi .sgt k 0#32)) (Scalar.extui (Scalar.cmpi .slt k 0#32))) 1 :=
    subi (extui_holds (sgt_holds hk hz hK) rfl) (extui_fails (slt_fails hk hz (by omega)) rfl) (by decide)
  have hf : Fails (Scalar.andi
      (Scalar.cmpi .ne
        (Scalar.subi (Scalar.extui (Scalar.cmpi .sgt x 0#32)) (Scalar.extui (Scalar.cmpi .slt x 0#32)))
        (Scalar.subi (Scalar.extui (Scalar.cmpi .sgt k 0#32)) (Scalar.extui (Scalar.cmpi .slt k 0#32))))
      (Scalar.cmpi .ne (Scalar.remsi x k) 0#32)) := by
    by_cases hX : X = 0
    · subst hX
      exact andi_fails_right trivial (ne_fails hr hz (Int.zero_emod K))
    · refine andi_fails_left (ne_fails (subi (e := 1) (extui_holds (sgt_holds hx hz (by omega)) rfl)
        (extui_fails (slt_fails hx hz (by omega)) rfl) (by decide)) hkk rfl) trivial
  exact select_fails hf (subi hd ho ⟨rfl, by omega, by omega⟩) hd rfl

/-- The start of the embedding window is the block number times 128. -/
theorem mult1_eq (v : BitVec 32) : k0_mult1 v = Scalar.muli (fdiv (expIdx v) 128#32) 128#32 := rfl
/-- The embedding window starts at row 0 and at that column. -/
theorem off1_eq (v : BitVec 32) : k0_off1 v = ![0, (k0_mult1 v).toNat] := rfl
/-- The usage windows start at the block number times 512. -/
theorem off2_eq (v : BitVec 32) : k0_off2 v = ![(Scalar.muli (blockNo v) 512#32).toNat] := rfl

section
variable {v : BitVec 32} (h0 : 100000 ≤ v.toInt) (h1 : v.toInt < 999936)
include h0 h1

/-- The token's column, as an integer. -/
theorem expIdx_isInt : IsInt (expIdx v) (v.toInt - 100000) :=
  subi (Affine.word v) (ofNat 100000 (by decide)) ⟨rfl, by omega, by omega⟩

/-- The start of the embedding window, as an integer. -/
theorem mult1_isInt : IsInt (k0_mult1 v) ((v.toInt - 100000) / 128 * 128) := by
  rw [mult1_eq]
  exact muli (fdiv_isInt (expIdx_isInt h0 h1) (ofNat 128 ⟨rfl, by decide⟩) (by omega) (by omega) (by decide))
    (ofNat 128 ⟨rfl, by decide⟩) ⟨rfl, by omega, by omega⟩

/-- The start of the usage windows, as an integer. -/
theorem base2_isInt : IsInt (Scalar.muli (blockNo v) 512#32) (v.toInt / 512 * 512) :=
  muli (fdiv_isInt (Affine.word v) (ofNat 512 ⟨rfl, by decide⟩) (by omega) (by omega) (by decide))
    (ofNat 512 ⟨rfl, by decide⟩) ⟨rfl, by omega, by omega⟩

/-- The embedding window starts at the last multiple of 128 that is not past the token's column. -/
theorem mult1_toNat : ((k0_mult1 v).toNat : ℤ) = (v.toInt - 100000) / 128 * 128 :=
  toNat_of (mult1_isInt h0 h1) (by omega)

/-- The usage windows start at the last multiple of 512 that is not past the token. -/
theorem base2_toNat : ((Scalar.muli (blockNo v) 512#32).toNat : ℤ) = v.toInt / 512 * 512 :=
  toNat_of (base2_isInt h0 h1) (by omega)

/-- The token's column within the embedding window. -/
theorem lane1_toNat : ((Scalar.subi (expIdx v) (k0_mult1 v)).toNat : ℤ) = (v.toInt - 100000) % 128 :=
  toNat_of (subi (expIdx_isInt h0 h1) (mult1_isInt h0 h1) ⟨by omega, by omega, by omega⟩) (by omega)

/-- The token's entry within the usage windows. -/
theorem lane2_toNat : ((Scalar.subi v (Scalar.muli (blockNo v) 512#32)).toNat : ℤ) = v.toInt % 512 :=
  toNat_of (subi (Affine.word v) (base2_isInt h0 h1) ⟨by omega, by omega, by omega⟩) (by omega)

/-- The windows of a token in the table lie inside the arrays, so the kernel's own check passes. -/
theorem chk1_of : k0_chk1 v := by
  have hm := mult1_toNat h0 h1
  have hb := base2_toNat h0 h1
  refine ⟨by omega, ?_, ?_⟩
  · rw [off1_eq]
    intro a
    match a with
    | 0 => show 0 + 64 ≤ 64; omega
    | 1 => show (k0_mult1 v).toNat + 128 ≤ 900000; omega
  · rw [off2_eq]
    intro a
    match a with
    | 0 => show (Scalar.muli (blockNo v) 512#32).toNat + 512 ≤ 1000000; omega
end

end Cert.KernelIdeal.Hand
end
-- ==== Proof.Run.lean ====
module

public import proofs.«01_k».proof.Proof.Words

@[expose] public section

/-! The program's run: the host lines, the launch of the kernel on its one point, the host lines after it. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The one word of a one-element array. -/
def tokOf (x : S1.Idx → BitVec 32) : BitVec 32 :=
  x ((Rect.unit (s := S1) ![0] S1.size inb_S1_S1_0).emb (Shape.Idx.first (numel1_S1.symm ▸ Nat.one_pos)))

/-- The word that the body reads is the one word of the staged array. -/
theorem word_eq (c : Dev nD) (arg0 : Memref sig .tc .smem S1 .i32) (f0 : Buf (Elt F) (arg0.view.loc (c : Thread nD τ))) :
    word c arg0 f0 = tokOf (arg0.view.read (Elt F) f0) := rfl

/-- The token, as the region finds it staged. -/
def tok (c : Dev nD) : BitVec 32 := tokOf (iblk m c 0 t0_0)

variable (hchk : ∀ c : Dev nD, k0_chk1 (tok m c))

/-- What the four result buffers of the kernel hold when it is done. -/
def G (c : Dev nD) : (b : Ref sig .tc) → Buf (Elt F) ((c : Thread nD τ).loc b) :=
  Function.update (Function.update (Function.update (Function.update (V m c)
    main_v6_0 (gEmb (tok m c) (hchk c) (V m c main_v6_0) (V m c main_v5)))
    main_v6_1 (gUse (tok m c) (hchk c) (V m c main_v6_1)))
    main_v6_2 (gTim (tok m c) (hchk c) (V m c main_v6_2)))
    main_v6_3 (V m c main_v5)

/-- The table at the kernel's end. -/
theorem G_0 (c : Dev nD) : G m hchk c main_v6_0 = gEmb (tok m c) (hchk c) (V m c main_v6_0) (V m c main_v5) := by
  unfold G
  rw [Function.update_of_ne (by decide), Function.update_of_ne (by decide), Function.update_of_ne (by decide), Function.update_self]
/-- The counts at the kernel's end. -/
theorem G_1 (c : Dev nD) : G m hchk c main_v6_1 = gUse (tok m c) (hchk c) (V m c main_v6_1) := by
  unfold G
  rw [Function.update_of_ne (by decide), Function.update_of_ne (by decide), Function.update_self]
/-- The times at the kernel's end. -/
theorem G_2 (c : Dev nD) : G m hchk c main_v6_2 = gTim (tok m c) (hchk c) (V m c main_v6_2) := by
  unfold G
  rw [Function.update_of_ne (by decide), Function.update_self]
/-- The returned row at the kernel's end is the new row. -/
theorem G_3 (c : Dev nD) : G m hchk c main_v6_3 = V m c main_v5 := by
  unfold G
  rw [Function.update_self]

/-! ## The kernel's own buffers and semaphores -/

/-- The kernel's own four semaphores. -/
abbrev osem0 : Fin 4 → SemLoc sig := fun j => (![SemLoc.dma 1, SemLoc.dma 2, SemLoc.dma 3, SemLoc.dma 4] : Fin 4 → SemLoc sig) j
/-- The four are distinct, and the staging uses none of them. -/
theorem ownSemFacts0 : Pipeline.OwnSemFacts spec0 osem0 := by decide
/-- Owning the kernel's semaphores at zero is owning each of the four at zero. -/
theorem ownSems0_chain (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0
        ∗ semVal ((c : Thread nD τ), SemLoc.dma 3) 0 ∗ semVal ((c : Thread nD τ), SemLoc.dma 4) 0) := by
  rw [Pipeline.ownSems0_eq_of_list c osem0 [0, 1, 2, 3] (by decide) (by decide)]; rfl

/-- The buffer the kernel only reads, and the four it writes. -/
def H0 : Finset (Ref sig .tc) := {main_v5}
/-- The four buffers that the kernel writes. -/
def R0 : Finset (Ref sig .tc) := {main_v6_0, main_v6_1, main_v6_2, main_v6_3}
/-- The staging leaves the buffer that is only read alone. -/
theorem H0_sub : H0 ⊆ Pipeline.restRefs sig spec0 := by decide
/-- The staging leaves the four written buffers alone, and none of them is the one that is only read. -/
theorem R0_sub : R0 ⊆ Pipeline.restRefs sig spec0 \ H0 := by decide

/-- Owning the buffers that are only read is owning the new row. -/
theorem reads_chain (c : Dev nD) (B : (b : Ref sig .tc) → Buf (Elt F) ((c : Thread nD τ).loc b)) :
    (bigSep H0 (fun b => ((c : Thread nD τ).loc b) ↦{fullShare} B b) : sProp 𝕄)
      = iprop(((c : Thread nD τ).loc main_v5) ↦{fullShare} B main_v5) := by
  rw [BI.bigSep_eq_bigSepL_of_eq [main_v5] (by decide) (by decide)]; rfl
/-- Owning the written buffers is owning each of the four. -/
theorem writes_chain (c : Dev nD) (B : (b : Ref sig .tc) → Buf (Elt F) ((c : Thread nD τ).loc b)) :
    (bigSep R0 (fun b => ((c : Thread nD τ).loc b) ↦{fullShare} B b) : sProp 𝕄)
      = iprop((((c : Thread nD τ).loc main_v6_0) ↦{fullShare} B main_v6_0)
        ∗ (((c : Thread nD τ).loc main_v6_1) ↦{fullShare} B main_v6_1)
        ∗ (((c : Thread nD τ).loc main_v6_2) ↦{fullShare} B main_v6_2)
        ∗ (((c : Thread nD τ).loc main_v6_3) ↦{fullShare} B main_v6_3)) := by
  rw [BI.bigSep_eq_bigSepL_of_eq [main_v6_0, main_v6_1, main_v6_2, main_v6_3] (by decide) (by decide)]; rfl

/-! ## The proof data and the body -/

/-- The kernel's buffers before its one point, and after it. -/
def stage (k : ℕ) (c : Dev nD) (b : Ref sig .tc) : Buf (Elt F) ((c : Thread nD τ).loc b) :=
  if k = 0 then V m c b else G m hchk c b

/-- Before the point the buffers are as the kernel was launched on them. -/
theorem stage_zero : stage m hchk 0 = fun c b => V m c b := rfl
/-- After the point they are as `G` says. -/
theorem stage_one : stage m hchk 1 = G m hchk := rfl

/-- The proof data of the launch: the token's array is staged and unchanged, and the other buffers go from `V` to `G`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := Pipeline.ΦDRV osem0 spec0 H0 R0 (V m) (stage m hchk t.val) c
  q _ := fullShare
  owed _ := 0

/-- The staged array starts as the host lines left it. -/
theorem A_eq (c : Dev nD) (w : Fin cfg0.W) : (dats m hchk 0 c).A w = V m c (Pipeline.arrRef spec0 w) := by
  dsimp only [dats]
/-- The staged block after the body is the block fetched. -/
theorem after0_0 (c : Dev nD) (t : Fin cfg0.N) : (dats m hchk 0 c).after 0 t = iblk m c 0 t := by dsimp only [dats]
/-- The staged block before the body is the block fetched. -/
theorem before0_0 (c : Dev nD) (t : Fin cfg0.N) (d) : (dats m hchk 0 c).before 0 t d = iblk m c 0 t :=
  ((dats m hchk 0 c).before_in_eq_fetched 0 rfl (fun _ => rfl) (fun _ _ _ => rfl)
      (fun t => by rw [after0_0]; unfold Dat.blockOf iblk; rw [A_eq]) t d).trans
    (by unfold Dat.fetched Dat.blockOf iblk; rw [A_eq]; try rfl)

/-- What the body is given at its point. -/
def bodyPre (c : Dev nD) (t : Fin cfg0.N) : sProp 𝕄 :=
  iprop((dats m hchk 0 c).Φ t.castSucc ∗ (dats m hchk 0 c).owesAt () t.castSucc
    ∗ (∃ d, owns (c : Thread nD τ) (st0_0 t) fullShare ((dats m hchk 0 c).before 0 t d)))
/-- What the body gives back at its point. -/
def bodyPost (c : Dev nD) (t : Fin cfg0.N) : sProp 𝕄 :=
  iprop((dats m hchk 0 c).Φ t.succ ∗ (dats m hchk 0 c).owesAt () t.succ
    ∗ owns (c : Thread nD τ) (st0_0 t) fullShare ((dats m hchk 0 c).after 0 t))

/-- The body, given what it is given at its point, ends with what it has to give back. -/
theorem sound_body (c : Dev nD) (t : Fin cfg0.N) :
    bodyPre m hchk c t ⊢ wp frame (wpE (defs₀ (F := F)) Variants.none c none) Set.univ (bodyAt0 t) (fun _ => bodyPost m hchk c t) := by
  obtain rfl := fin_N0 t
  unfold bodyPre bodyPost bodyAt0
  simp only [before0_0]
  rw [after0_0]
  rw [show (dats m hchk 0 c).Φ t0_0.castSucc = Pipeline.ΦDRV osem0 spec0 H0 R0 (V m) (V m) c from rfl,
    show (dats m hchk 0 c).Φ t0_0.succ = Pipeline.ΦDRV osem0 spec0 H0 R0 (V m) (G m hchk) c from rfl]
  unfold Pipeline.ΦDRV
  rw [scopedRest0_eq, ownSems0_chain, reads_chain, writes_chain, writes_chain, G_0, G_1, G_2, G_3]
  unfold Dat.owesAt Pipeline.owesWithin
  rw [show (dats m hchk 0 c).owed t0_0.castSucc = 0 from rfl, show (dats m hchk 0 c).owed t0_0.succ = 0 from rfl]
  unfold owns
  iintro ⟨⟨⟨⟨%s0, HN⟩, ⟨%s1, HB⟩, ⟨%s2, HC⟩, ⟨%s3, HD⟩⟩, ⟨Q1, Q2, Q3, Q4⟩, HW, ⟨HE, HU, HT, HR⟩⟩, ⟨%W, -, HO⟩, ⟨%d0, ⟨%f0, %hf0, H0⟩⟩⟩
  have hw : word c (win0_0.stage (cfg0.slots t0_0 0)) f0 = tok m c := by
    rw [word_eq, tok, ← hf0]
    try rfl
  iapply (run c (win0_0.stage (cfg0.slots t0_0 0)) (hstage0_0 0) f0 (tok m c) hw (hchk c) (V m c main_v6_0) (V m c main_v6_1)
    (V m c main_v6_2) (V m c main_v5) (V m c main_v6_3) s0 s1 s2 s3 W)
  isplitl [H0]; · iexact H0
  isplitl [HE]; · iexact HE
  isplitl [HU]; · iexact HU
  isplitl [HT]; · iexact HT
  isplitl [HW]; · iexact HW
  isplitl [HR]; · iexact HR
  isplitl [HN]; · iexact HN
  isplitl [HB]; · iexact HB
  isplitl [HC]; · iexact HC
  isplitl [HD]; · iexact HD
  isplitl [Q1]; · iexact Q1
  isplitl [Q2]; · iexact Q2
  isplitl [Q3]; · iexact Q3
  isplitl [Q4]; · iexact Q4
  isplitl [HO]; · iexact HO
  iintro ⟨H0, HE, HU, HT, HW, HR, HN, HB, HC, HD, Q1, Q2, Q3, Q4, ⟨%W', HO⟩⟩
  isplitl [HE HU HT HW HR HN HB HC HD Q1 Q2 Q3 Q4]
  · isplitl [HN HB HC HD]
    · isplitl [HN]; · iexact HN
      isplitl [HB]; · iexact HB
      isplitl [HC]; · iexact HC
      iexact HD
    isplitl [Q1 Q2 Q3 Q4]
    · isplitl [Q1]; · iexact Q1
      isplitl [Q2]; · iexact Q2
      isplitl [Q3]; · iexact Q3
      iexact Q4
    isplitl [HW]; · iexact HW
    isplitl [HE]; · iexact HE
    isplitl [HU]; · iexact HU
    isplitl [HT]; · iexact HT
    iexact HR
  isplitl [HO]
  · iexists W'; isplitr; · ipureintro; exact fun _ _ => Or.inl trivial
    iexact HO
  iexists f0; isplitr
  swap; · iexact H0
  ipureintro; exact hf0

/-- The body that the launch calls is the kernel's. -/
theorem defs₀_row (t : Fin cfg0.N) :
    defs₀ (F := F) .tc cfg0.body (cfg0.bodyArgs t (cfg0.slots t)) = bodyAt0 t := by
  unfold defs₀; rw [Defs.onTc_tc]

/-- The launch's obligation on the body. -/
theorem body_obligation (c : Dev nD) :
    BodyObligation (dats (F := F) m hchk 0 c) (defs₀ (F := F)) Variants.none () Set.univ := fun t => by
  rw [bigSep_W0, bigSep_W0, defs₀_row]
  exact triple_restated (sound_body m hchk c t) rfl .rfl fun _ => .rfl

/-! ## The run -/

/-- The host lines around the kernel: those before it, the kernel, those after it. -/
theorem hmainD : Pipeline.HMainK (Ix := Unit) (Name := ℕ) (U := Pipeline.UD sig nD τ) (Lvl := ℕ) cfgs 0 defs₀ Variants.none m
    (main (F := F)) (V m) (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The unscoped buffers when the kernel is done and before the host lines that follow it. -/
abbrev V1 (c : Dev nD) : Valuation τ sig (Elt F) :=
  Pipeline.withArrays spec0 c (Pipeline.withR (V0 m c) R0 c (G m hchk c)) fun w => (dats m hchk 0 c).arrAt w cfg0.N

set_option backward.isDefEq.respectTransparency.types false in
/-- The program ends, with every buffer the pipeline does not stage at the host lines' outcome over what the kernel left,
    and every semaphore at zero. -/
theorem run_main : θ_run defs (onTc (τ := τ) (main (F := F))) (s₀ m ρ) (fun r =>
    (∀ c : Dev nD, ∀ b ∈ Pipeline.restRefs sig spec0, r.2.mem ((c : Thread nD τ).loc b)
      = StableHlo.after hostOps1 (V1 m hchk c) (Proc.devRef .tc b)) ∧ r.2.sem = fun _ => 0) :=
  Pipeline.θ_run_frame_dmaR_aroundV cfgs (dats m hchk) (0 : Fin 1) launch0 osem0 defs₀ Variants.none ownSemFacts0 H0 R0 H0_sub R0_sub
    m ρ main
    (hbody := fun c => (body_obligation m hchk c).loose) (hshare := fun c => (dats m hchk 0 c).share_full fun _ => rfl)
    (howed := fun _ _ => rfl) (V₀ := V0 m) (opss := [hostOps1]) sfx_sub sfx_fresh sfx_keeps (G := G m hchk)
    (hmain := hmainD m) (hA := A_eq m hchk) (hin := fun _ => .rfl) (hout := fun _ => .rfl)
    (Q' := _) (hQ' := fun r h => ⟨fun c b hb => (h.1 c).2 b hb, h.2⟩)

end Cert.KernelIdeal.Hand
end
-- ==== Proof.Values.lean ====
/- What the three rewritten windows hold, entry by entry: one entry of each array is changed, every other entry keeps
   what the array held. -/
module

public import proofs.«01_k».proof.Proof.Words
public import Idealize.ShloMosaic.Lib.Pointwise
public import Idealize.ShloMosaic.Lib.ValueIdxCore

@[expose] public section

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

/-! ## The vectors the kernel computes, at an entry -/

/-- A select on the equality of two words. -/
theorem select_eq {α : Type} (a b : BitVec 32) (x y : α) :
    Scalar.select (IntOp.cmpi CmpIPredicate.eq a b) x y = if a = b then x else y := by
  unfold Scalar.select IntOp.cmpi
  by_cases h : a = b
  · subst h; simp
  · have hf : (a == b) = false := beq_eq_false_iff_ne.mpr h
    simp [h, hf]

/-- The bit "two words are equal", widened to a word. -/
theorem setWidth_eq (a b : BitVec 32) :
    BitVec.setWidth 32 (IntOp.cmpi CmpIPredicate.eq a b) = if a = b then 1#32 else 0#32 := by
  unfold IntOp.cmpi
  by_cases h : a = b
  · subst h; simp
  · have hf : (a == b) = false := beq_eq_false_iff_ne.mpr h
    simp [h, hf]

/-- The word of a number below 2³² is a given word exactly when the number is the word read as a number. -/
theorem ofNat_eq_iff (x : ℕ) (w : BitVec 32) (hx : x < 2 ^ 32) : BitVec.ofNat 32 x = w ↔ x = w.toNat := by
  constructor
  · rintro rfl
    rw [BitVec.toNat_ofNat, Nat.mod_eq_of_lt hx]
  · rintro rfl
    exact BitVec.ofNat_toNat 32 w ▸ by simp

/-- The embedding window: the new row in the token's lane, the old contents in every other lane. -/
theorem pay2_apply (e a : BitVec 32) (fW fE : S64x128.Idx → Elt F .f32) (r : Fin 64) (x : Fin 128) :
    k0_pay2 e a fW fE (ValueIdx.ix2 r x)
      = if x.val = (Scalar.subi e a).toNat then fW (ValueIdx.ix2 r x) else fE (ValueIdx.ix2 r x) := by
  unfold k0_pay2
  pointwise
  rw [select_eq]
  exact if_congr (ofNat_eq_iff _ _ (by have := x.isLt; omega)) rfl rfl

/-- The creation-time window: infinity in the token's lane, the old contents in every other lane. -/
theorem pay5_apply (v b : BitVec 32) (fT : S512.Idx → Elt F .f32) (x : Fin 512) :
    k0_pay1 (k0_pay5 v b fT) (ValueIdx.ix1 x)
      = if x.val = (Scalar.subi v (Scalar.muli b 512#32)).toNat then FloatOps.ofBits .f32 0x7F800000#32
        else fT (ValueIdx.ix1 x) := by
  unfold k0_pay1 k0_pay5 k0_pay3
  pointwise
  rw [select_eq]
  exact if_congr (ofNat_eq_iff _ _ (by have := x.isLt; omega)) rfl rfl

/-- The usage window: the old contents plus the number one in the token's lane, plus the number zero in every other. -/
theorem pay4_apply (v b : BitVec 32) (fU : S512.Idx → Elt F .f32) (x : Fin 512) :
    k0_pay4 v b fU (ValueIdx.ix1 x)
      = FloatOps.addf (fU (ValueIdx.ix1 x))
          (FloatOps.sitofp .f32 (if x.val = (Scalar.subi v (Scalar.muli b 512#32)).toNat then 1#32 else 0#32)) := by
  unfold k0_pay4 k0_pay3
  pointwise
  rw [setWidth_eq]
  congr 2
  exact if_congr (ofNat_eq_iff _ _ (by have := x.isLt; omega)) rfl rfl

/-! ## A write through a window, at an entry -/

/-- A whole window written through a view, at an entry that the view's index `x` names. -/
theorem write_at {sp : Space} {s : Shape} {e : EltTy} (w : View sig .tc sp s e) (f : w.ty.Contents (Elt F)) (p : s.Idx → Elt F e)
    (x : s.Idx) (i : w.ty.Idx) (hx : w.emb x = i) :
    w.write (Elt F) f p Finset.univ i = _root_.cast (congrArg (Elt F) w.elt_eq.symm) (p x) := by
  subst hx
  exact View.write_emb_of_mem _ _ (Finset.mem_univ _)

/-- A whole window written through a view, at an entry that no index of the view names. -/
theorem write_off {sp : Space} {s : Shape} {e : EltTy} (w : View sig .tc sp s e) (f : w.ty.Contents (Elt F)) (p : s.Idx → Elt F e)
    (i : w.ty.Idx) (hx : ∀ x, w.emb x ≠ i) : w.write (Elt F) f p Finset.univ i = f i := by
  refine View.write_of_not_mem _ _ _ fun h => ?_
  rw [View.setOn, Finset.mem_map] at h
  obtain ⟨x, _, e⟩ := h
  exact hx x e

/-- The usage window's entry `x` is the array's entry `offset + x`. -/
theorem emb_use (v : BitVec 32) (h : k0_chk1 v) (x : S512.Idx) :
    (((wUse v h).view.emb x : S1000000.Idx) 0 : ℕ) = (Scalar.muli (blockNo v) 512#32).toNat + (x 0 : ℕ) := by
  show (Scalar.muli (blockNo v) 512#32).toNat + 1 * (x 0 : ℕ) = _
  omega
/-- The creation-time window's entry `x` is the array's entry `offset + x`. -/
theorem emb_tim (v : BitVec 32) (h : k0_chk1 v) (x : S512.Idx) :
    (((wTim v h).view.emb x : S1000000.Idx) 0 : ℕ) = (Scalar.muli (blockNo v) 512#32).toNat + (x 0 : ℕ) := by
  show (Scalar.muli (blockNo v) 512#32).toNat + 1 * (x 0 : ℕ) = _
  omega
/-- The embedding window takes every row of the transposed table. -/
theorem emb_emb0 (v : BitVec 32) (h : k0_chk1 v) (x : S64x128.Idx) :
    (((wEmb v h).view.emb x : S64x900000.Idx) 0 : ℕ) = (x 0 : ℕ) := by
  show 0 + 1 * (x 0 : ℕ) = _
  omega
/-- The embedding window's column `x` is the transposed table's column `offset + x`. -/
theorem emb_emb1 (v : BitVec 32) (h : k0_chk1 v) (x : S64x128.Idx) :
    (((wEmb v h).view.emb x : S64x900000.Idx) 1 : ℕ) = (k0_mult1 v).toNat + (x 1 : ℕ) := by
  show (k0_mult1 v).toNat + 1 * (x 1 : ℕ) = _
  omega

variable {v : BitVec 32} (h0 : 100000 ≤ v.toInt) (h1 : v.toInt < 999936)
include h0 h1

/-- The creation-time vector the kernel leaves: infinity at the token, every other entry as it was. -/
theorem gTim_apply (h : k0_chk1 v) (fT : S1000000.Idx → Elt F .f32) (q : Fin 1000000) :
    gTim v h fT (ValueIdx.ix1 q) = if (q.val : ℤ) = v.toInt then FloatOps.ofBits .f32 0x7F800000#32 else fT (ValueIdx.ix1 q) := by
  have hb := base2_toNat h0 h1
  have hl := lane2_toNat h0 h1
  unfold gTim
  by_cases hin : (Scalar.muli (blockNo v) 512#32).toNat ≤ q.val ∧ q.val < (Scalar.muli (blockNo v) 512#32).toNat + 512
  · have hx : (wTim v h).view.emb (ValueIdx.ix1 (⟨q.val - (Scalar.muli (blockNo v) 512#32).toNat, by omega⟩ : Fin 512))
        = (ValueIdx.ix1 q : S1000000.Idx) := by
      funext a
      match a with
      | ⟨0, _⟩ => exact Fin.ext ((emb_tim v h _).trans (by show _ + (q.val - _) = q.val; omega))
    refine (write_at _ _ _ _ _ hx).trans ?_
    refine (pay5_apply v (blockNo v) _ _).trans ?_
    refine if_congr ?_ rfl (congrArg fT hx)
    show q.val - _ = _ ↔ _
    omega
  · rw [write_off _ _ _ _ fun x hx => hin ?_, if_neg (by omega)]
    have e := (emb_tim v h x).symm.trans (congrArg (fun i : S1000000.Idx => ((i 0 : Fin 1000000) : ℕ)) hx)
    have hlt : ((x 0 : Fin 512) : ℕ) < 512 := (x 0).isLt
    change _ + ((x 0 : Fin 512) : ℕ) = q.val at e
    omega

/-- The usage vector the kernel leaves: one more at the token, every other entry as it was, over the reals. -/
theorem gUse_apply (h : k0_chk1 v) (fU : S1000000.Idx → Elt Ideal .f32) (q : Fin 1000000) :
    gUse v h fU (ValueIdx.ix1 q)
      = if (q.val : ℤ) = v.toInt then FloatOps.addf (fU (ValueIdx.ix1 q)) (FloatOps.sitofp .f32 1#32 : Ideal .f32) else fU (ValueIdx.ix1 q) := by
  have hb := base2_toNat h0 h1
  have hl := lane2_toNat h0 h1
  unfold gUse
  by_cases hin : (Scalar.muli (blockNo v) 512#32).toNat ≤ q.val ∧ q.val < (Scalar.muli (blockNo v) 512#32).toNat + 512
  · have hx : (wUse v h).view.emb (ValueIdx.ix1 (⟨q.val - (Scalar.muli (blockNo v) 512#32).toNat, by omega⟩ : Fin 512))
        = (ValueIdx.ix1 q : S1000000.Idx) := by
      funext a
      match a with
      | ⟨0, _⟩ => exact Fin.ext ((emb_use v h _).trans (by show _ + (q.val - _) = q.val; omega))
    refine (write_at _ _ _ _ _ hx).trans ?_
    refine (pay4_apply v (blockNo v) _ _).trans ?_
    have hr : (wUse v h).view.read (Elt Ideal) fU (ValueIdx.ix1 (⟨q.val - (Scalar.muli (blockNo v) 512#32).toNat, by omega⟩ : Fin 512))
      = fU (ValueIdx.ix1 q) := congrArg fU hx
    rw [hr]
    by_cases hq : (q.val : ℤ) = v.toInt
    · rw [if_pos hq, if_pos (by show q.val - _ = _; omega)]
    · rw [if_neg hq, if_neg (by show ¬ q.val - _ = _; omega)]
      show fU (ValueIdx.ix1 q) + (((0#32 : BitVec 32).toInt : ℝ) : EReal) = _
      simp
  · rw [write_off _ _ _ _ fun x hx => hin ?_, if_neg (by omega)]
    have e := (emb_use v h x).symm.trans (congrArg (fun i : S1000000.Idx => ((i 0 : Fin 1000000) : ℕ)) hx)
    have hlt : ((x 0 : Fin 512) : ℕ) < 512 := (x 0).isLt
    change _ + ((x 0 : Fin 512) : ℕ) = q.val at e
    omega

/-- The transposed embedding table the kernel leaves: the new row down the token's column, every other entry as it was.
    `fW` holds the new row in every lane. -/
theorem gEmb_apply (h : k0_chk1 v) (fE : S64x900000.Idx → Elt F .f32) (fW : S64x128.Idx → Elt F .f32) (g : Fin 64 → Elt F .f32)
    (hW : ∀ r x, fW (ValueIdx.ix2 r x) = g r) (r : Fin 64) (q : Fin 900000) :
    gEmb v h fE fW (ValueIdx.ix2 r q) = if (q.val : ℤ) = v.toInt - 100000 then g r else fE (ValueIdx.ix2 r q) := by
  have hb := mult1_toNat h0 h1
  have hl := lane1_toNat h0 h1
  unfold gEmb
  by_cases hin : (k0_mult1 v).toNat ≤ q.val ∧ q.val < (k0_mult1 v).toNat + 128
  · have hx : (wEmb v h).view.emb (ValueIdx.ix2 r (⟨q.val - (k0_mult1 v).toNat, by omega⟩ : Fin 128))
        = (ValueIdx.ix2 r q : S64x900000.Idx) := by
      funext a
      match a with
      | ⟨0, _⟩ => exact Fin.ext (emb_emb0 v h _)
      | ⟨1, _⟩ => exact Fin.ext ((emb_emb1 v h _).trans (by show _ + (q.val - _) = q.val; omega))
    refine (write_at _ _ _ _ _ hx).trans ?_
    refine (pay2_apply (expIdx v) (k0_mult1 v) _ _ _ _).trans ?_
    refine if_congr ?_ (hW _ _) (congrArg fE hx)
    show q.val - _ = _ ↔ _
    omega
  · rw [write_off _ _ _ _ fun x hx => hin ?_, if_neg (by omega)]
    have e := (emb_emb1 v h x).symm.trans (congrArg (fun i : S64x900000.Idx => ((i 1 : Fin 900000) : ℕ)) hx)
    have hlt : ((x 1 : Fin 128) : ℕ) < 128 := (x 1).isLt
    change _ + ((x 1 : Fin 128) : ℕ) = q.val at e
    omega

end Cert.KernelIdeal.Hand
end
-- ==== Proof.Ends.lean ====
module

public import proofs.«01_k».proof.Proof.Run
public import proofs.«01_k».proof.Proof.Values
public import Idealize.ShloMosaic.Lib.StableHlo.ReadAt
public import Idealize.ShloMosaic.Lib.Pointwise

@[expose] public section

/-! What the program's arrays hold at its end: the arguments unchanged, and the four results. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-! ## What the kernel is launched on -/

/-- The kernel is launched on the token as a one-element array. -/
theorem V_v0 (c : Dev nD) : V m c main_v0 = shapeCast S1 (m ((c : Thread nD τ).loc main_arg4) : S_.Idx → BitVec 32) shapeCasts_S_S1 := by
  unfold V V0
  after_reads_simp
  rfl
/-- The kernel is launched on the transposed table. -/
theorem V_v6_0 (c : Dev nD) : V m c main_v6_0
    = transpose S64x900000 [1, 0] (m ((c : Thread nD τ).loc main_arg2) : S900000x64.Idx → Elt F .f32) transposes_S900000x64_S64x900000_1_0 := by
  unfold V V0
  after_reads_simp
  rfl
/-- The kernel is launched on the counts given. -/
theorem V_v6_1 (c : Dev nD) : V m c main_v6_1 = m ((c : Thread nD τ).loc main_arg0) := by
  unfold V V0
  after_reads_simp
  rfl
/-- The kernel is launched on the times given. -/
theorem V_v6_2 (c : Dev nD) : V m c main_v6_2 = m ((c : Thread nD τ).loc main_arg1) := by
  unfold V V0
  after_reads_simp
  rfl
/-- The kernel is launched on the new row, repeated over 128 lanes. -/
theorem V_v5 (c : Dev nD) : V m c main_v5 = shapeCast S64x128 (broadcastInDim S1x64x128x1 ![0, 1, 2, 3]
    bcast_S1x64x1x1_S1x64x128x1_0_1_2_3 (shapeCast S1x64x1x1 (shapeCast S64x1
      (m ((c : Thread nD τ).loc main_arg3) : S64.Idx → Elt F .f32) shapeCasts_S64_S64x1) shapeCasts_S64x1_S1x64x1x1))
      shapeCasts_S1x64x128x1_S64x128 := by
  unfold V V0
  after_reads_simp
  rfl

/-- The token the kernel reads is the program's argument. -/
theorem tok_eq (c : Dev nD) (i : S_.Idx) : tok m c = (m ((c : Thread nD τ).loc main_arg4) : S_.Idx → BitVec 32) i := by
  have e := V_v0 m c
  unfold tok tokOf iblk
  show (V m c main_v0 : S1.Idx → BitVec 32) _ = _
  rw [e]
  exact congrArg (m ((c : Thread nD τ).loc main_arg4) : S_.Idx → BitVec 32) (funext fun a => a.elim0)

/-- The widened new row that the kernel is launched on holds entry `r` of the new row in every lane of row `r`. -/
theorem V_v5_apply (c : Dev nD) (r : Fin 64) (x : Fin 128) :
    (V m c main_v5 : S64x128.Idx → Elt F .f32) (ValueIdx.ix2 r x)
      = (m ((c : Thread nD τ).loc main_arg3) : S64.Idx → Elt F .f32) (ValueIdx.ix1 r) := by
  rw [V_v5]
  pointwise
  rfl

/-- The transposed table that the kernel is launched on. -/
theorem V_v6_0_apply (c : Dev nD) (r : Fin 64) (q : Fin 900000) :
    (V m c main_v6_0 : S64x900000.Idx → Elt F .f32) (ValueIdx.ix2 r q)
      = (m ((c : Thread nD τ).loc main_arg2) : S900000x64.Idx → Elt F .f32) (ValueIdx.ix2 q r) := by
  rw [V_v6_0]
  pointwise
  rfl

variable (hchk : ∀ c : Dev nD, k0_chk1 (tok m c))

/-! ## The argument arrays end unchanged -/

/-- A buffer that the lines after the kernel do not write, that the kernel does not write and that is not staged ends as
    the kernel found it. -/
theorem end_of (c : Dev nD) (b : Ref sig .tc) (h7 : b ≠ main_v7) (h8 : b ≠ main_v8) (h9 : b ≠ main_v9)
    (hw : ∀ w, Pipeline.arrRef spec0 w ≠ b) (X : Buf (Elt F) ((c : Thread nD τ).loc b))
    (hX : Pipeline.withR (V0 m c) R0 c (G m hchk c) (Proc.devRef .tc b) = X) :
    StableHlo.after hostOps1 (V1 m hchk c) (Proc.devRef .tc b) = X := by
  unfold V1
  rw [StableHlo.after_of_forall_not_mem (b := Proc.devRef .tc b) _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes, Finset.mem_singleton]
      exact ⟨StableHlo.devRef_ne_of_ne h7, StableHlo.devRef_ne_of_ne h8, StableHlo.devRef_ne_of_ne h9⟩)),
    Pipeline.withArrays_of_ne _ c _ _ b hw]
  exact hX

include hchk in
/-- The program ends, its five arguments are as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ hchk)
  refine ⟨?_, ?_, ?_, ?_, ?_⟩
  · exact (h.1 c main_arg0 (Pipeline.mem_restRefs_of _ (by decide) (by decide))).trans
      (end_of m hchk c main_arg0 (by decide) (by decide) (by decide) (by decide) _
        ((Pipeline.withR_of_not_mem _ _ c _ main_arg0 (by decide)).trans (V_main_arg0 m c)))
  · exact (h.1 c main_arg1 (Pipeline.mem_restRefs_of _ (by decide) (by decide))).trans
      (end_of m hchk c main_arg1 (by decide) (by decide) (by decide) (by decide) _
        ((Pipeline.withR_of_not_mem _ _ c _ main_arg1 (by decide)).trans (V_main_arg1 m c)))
  · exact (h.1 c main_arg2 (Pipeline.mem_restRefs_of _ (by decide) (by decide))).trans
      (end_of m hchk c main_arg2 (by decide) (by decide) (by decide) (by decide) _
        ((Pipeline.withR_of_not_mem _ _ c _ main_arg2 (by decide)).trans (V_main_arg2 m c)))
  · exact (h.1 c main_arg3 (Pipeline.mem_restRefs_of _ (by decide) (by decide))).trans
      (end_of m hchk c main_arg3 (by decide) (by decide) (by decide) (by decide) _
        ((Pipeline.withR_of_not_mem _ _ c _ main_arg3 (by decide)).trans (V_main_arg3 m c)))
  · exact (h.1 c main_arg4 (Pipeline.mem_restRefs_of _ (by decide) (by decide))).trans
      (end_of m hchk c main_arg4 (by decide) (by decide) (by decide) (by decide) _
        ((Pipeline.withR_of_not_mem _ _ c _ main_arg4 (by decide)).trans (V_main_arg4 m c)))

/-! ## The results -/

/-- The second usage array the program returns, as the kernel left it. -/
theorem out_v6_1 (c : Dev nD) : StableHlo.after hostOps1 (V1 m hchk c) (Proc.devRef .tc main_v6_1)
    = gUse (tok m c) (hchk c) (m ((c : Thread nD τ).loc main_arg0)) :=
  end_of m hchk c main_v6_1 (by decide) (by decide) (by decide) (by decide) _
    ((Pipeline.withR_of_mem _ _ c _ main_v6_1 (by decide)).trans ((G_1 m hchk c).trans (by rw [V_v6_1])))
/-- The creation-time array the program returns, as the kernel left it. -/
theorem out_v6_2 (c : Dev nD) : StableHlo.after hostOps1 (V1 m hchk c) (Proc.devRef .tc main_v6_2)
    = gTim (tok m c) (hchk c) (m ((c : Thread nD τ).loc main_arg1)) :=
  end_of m hchk c main_v6_2 (by decide) (by decide) (by decide) (by decide) _
    ((Pipeline.withR_of_mem _ _ c _ main_v6_2 (by decide)).trans ((G_2 m hchk c).trans (by rw [V_v6_2])))
/-- What the lines after the kernel find in the transposed table. -/
theorem V1_v6_0 (c : Dev nD) : V1 m hchk c (Proc.devRef .tc main_v6_0)
    = gEmb (tok m c) (hchk c) (V m c main_v6_0) (V m c main_v5) := by
  unfold V1
  rw [Pipeline.withArrays_of_ne _ c _ _ main_v6_0 (by decide)]
  exact (Pipeline.withR_of_mem _ _ c _ main_v6_0 (by decide)).trans (G_0 m hchk c)
/-- What the lines after the kernel find in the copied row. -/
theorem V1_v6_3 (c : Dev nD) : V1 m hchk c (Proc.devRef .tc main_v6_3) = V m c main_v5 := by
  unfold V1
  rw [Pipeline.withArrays_of_ne _ c _ _ main_v6_3 (by decide)]
  exact (Pipeline.withR_of_mem _ _ c _ main_v6_3 (by decide)).trans (G_3 m hchk c)
/-- The table the program returns is the kernel's, transposed back. -/
theorem out_v9 (c : Dev nD) : StableHlo.after hostOps1 (V1 m hchk c) (Proc.devRef .tc main_v9)
    = transpose S900000x64 [1, 0] (gEmb (tok m c) (hchk c) (V m c main_v6_0) (V m c main_v5)) transposes_S64x900000_S900000x64_1_0 := by
  rw [← V1_v6_0 m hchk c]
  generalize V1 m hchk c = X
  after_reads_simp
/-- Entry `r` of the row the program returns is the first lane of row `r` of the widened new row. -/
theorem out_v8 (c : Dev nD) (r : Fin 64) : (StableHlo.after hostOps1 (V1 m hchk c) (Proc.devRef .tc main_v8) : S64.Idx → Elt F .f32) (ValueIdx.ix1 r)
    = (V m c main_v5 : S64x128.Idx → Elt F .f32) (ValueIdx.ix2 r 0) := by
  rw [← V1_v6_3 m hchk c]
  generalize V1 m hchk c = X
  after_reads_simp
  pointwise
  rfl

end Cert.KernelIdeal.Hand
end
-- ==== Proof.Spec.lean ====
/- What both programs compute, stated once over the arrays: one row or one entry of each array is changed. -/
module

public import Idealize.ShloMosaic.PureOps.Ideal
public import Idealize.ShloMosaic.Lib.ValueIdxCore

@[expose] public section

noncomputable section

namespace Cert.Hand

open Idealize.ShloMosaic

variable {F : FTy → Type} [FloatOps F]

/-- The embedding table after the step: the new row `w` at row `t - 100000`, every other row as it was. -/
def newTable (t : ℤ) (E : (⟨2, ![900000, 64]⟩ : Shape).Idx → F .f32) (w : (⟨1, ![64]⟩ : Shape).Idx → F .f32) :
    (⟨2, ![900000, 64]⟩ : Shape).Idx → F .f32 :=
  fun i => if ((i 0 : Fin 900000).val : ℤ) = t - 100000 then w (ValueIdx.ix1 (i 1 : Fin 64)) else E i

/-- The usage vector after the step: `one` added to entry `t`, every other entry as it was. -/
def newUsage (t : ℤ) (one : F .f32) (U : (⟨1, ![1000000]⟩ : Shape).Idx → F .f32) : (⟨1, ![1000000]⟩ : Shape).Idx → F .f32 :=
  fun i => if ((i 0 : Fin 1000000).val : ℤ) = t then FloatOps.addf (U i) one else U i

/-- The creation-time vector after the step: `inf` at entry `t`, every other entry as it was. -/
def newTimes (t : ℤ) (inf : F .f32) (T : (⟨1, ![1000000]⟩ : Shape).Idx → F .f32) : (⟨1, ![1000000]⟩ : Shape).Idx → F .f32 :=
  fun i => if ((i 0 : Fin 1000000).val : ℤ) = t then inf else T i

end Cert.Hand
end
-- ==== Proof.Results.lean ====
/- The four results of the kernel's program over the reals, for a token that is in the table. -/
module

public import proofs.«01_k».proof.Proof.Ends
public import proofs.«01_k».proof.Proof.Spec
public import Idealize.ShloMosaic.Lib.IdealHost

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL.Sem

/-- The word one turned into a float is the float constant one, over the reals. -/
theorem one_eq : (FloatOps.sitofp .f32 1#32 : Ideal .f32) = FloatOps.ofBits .f32 0x3F800000#32 := by
  refine Eq.trans ?_ Ideal.ofBits_one_f32.symm
  show (((1#32 : BitVec 32).toInt : ℝ) : EReal) = 1
  norm_num

variable (m : (ℓ : Loc nD τ sig) → Buf (Elt Ideal) ℓ) (ρ : Dev nD → PrngReg)

/-- The token that device `c` is given. -/
def argTok (c : Dev nD) : ℤ := ((m ((c : Thread nD τ).loc main_arg4) : S_.Idx → BitVec 32) ValueIdx.ix0).toInt

variable (h0 : ∀ c, 100000 ≤ argTok m c) (h1 : ∀ c, argTok m c < 999936)
include h0 h1

/-- A token in the table passes the kernel's own check of its windows. -/
theorem chk_of (c : Dev nD) : k0_chk1 (tok m c) := by
  refine chk1_of ?_ ?_ <;> rw [tok_eq m c ValueIdx.ix0]
  · exact h0 c
  · exact h1 c

/-- The program runs; it returns the new row, the table with that row in place, the usage vector with one added at the
    token, and the creation-time vector with infinity at the token; its arguments end unchanged. -/
theorem results : θ_run defs (onTc (τ := τ) (main (F := Ideal))) ⟨m, fun _ => 0, ρ⟩ (fun r => ∀ c : Dev nD,
      r.2.mem ((c.tc : Thread nD τ).loc main_v8) = m ((c.tc : Thread nD τ).loc main_arg3)
      ∧ r.2.mem ((c.tc : Thread nD τ).loc main_v9)
        = newTable (F := Ideal) (argTok m c) (m ((c.tc : Thread nD τ).loc main_arg2)) (m ((c.tc : Thread nD τ).loc main_arg3))
      ∧ r.2.mem ((c.tc : Thread nD τ).loc main_v6_1)
        = newUsage (F := Ideal) (argTok m c) (FloatOps.ofBits .f32 0x3F800000#32) (m ((c.tc : Thread nD τ).loc main_arg0))
      ∧ r.2.mem ((c.tc : Thread nD τ).loc main_v6_2)
        = newTimes (F := Ideal) (argTok m c) (FloatOps.ofBits .f32 0x7F800000#32) (m ((c.tc : Thread nD τ).loc main_arg1))) := by
  have hchk := chk_of m h0 h1
  have ht : ∀ c, (tok m c).toInt = argTok m c := fun c => by rw [tok_eq m c ValueIdx.ix0]; rfl
  have t0 : ∀ c, 100000 ≤ (tok m c).toInt := fun c => by rw [ht]; exact h0 c
  have t1 : ∀ c, (tok m c).toInt < 999936 := fun c => by rw [ht]; exact h1 c
  refine (θ_run defs _ _).mono (fun r h c => ⟨?_, ?_, ?_, ?_⟩) (run_main m ρ hchk)
  · refine (h.1 c main_v8 (Pipeline.mem_restRefs_of _ (by decide) (by decide))).trans (funext fun i => ?_)
    obtain ⟨p, rfl⟩ : ∃ p : Fin 64, i = ValueIdx.ix1 p := ⟨i 0, ValueIdx.eq_ix1 i⟩
    exact (out_v8 m hchk c p).trans (V_v5_apply m c p 0)
  · refine (h.1 c main_v9 (Pipeline.mem_restRefs_of _ (by decide) (by decide))).trans ((out_v9 m hchk c).trans (funext fun i => ?_))
    obtain ⟨q, p, rfl⟩ : ∃ (q : Fin 900000) (p : Fin 64), i = ValueIdx.ix2 q p := ⟨i 0, i 1, ValueIdx.eq_ix2 i⟩
    have e := gEmb_apply (t0 c) (t1 c) (hchk c) (V m c main_v6_0) (V m c main_v5) _ (fun p x => V_v5_apply m c p x) p q
    rw [V_v6_0_apply, ht] at e
    refine Eq.trans ?_ e
    pointwise
    rfl
  · refine (h.1 c main_v6_1 (Pipeline.mem_restRefs_of _ (by decide) (by decide))).trans ((out_v6_1 m hchk c).trans (funext fun i => ?_))
    obtain ⟨q, rfl⟩ : ∃ q : Fin 1000000, i = ValueIdx.ix1 q := ⟨i 0, ValueIdx.eq_ix1 i⟩
    have e := gUse_apply (t0 c) (t1 c) (hchk c) (m ((c : Thread nD τ).loc main_arg0)) q
    rw [ht, one_eq] at e
    exact e
  · refine (h.1 c main_v6_2 (Pipeline.mem_restRefs_of _ (by decide) (by decide))).trans ((out_v6_2 m hchk c).trans (funext fun i => ?_))
    obtain ⟨q, rfl⟩ : ∃ q : Fin 1000000, i = ValueIdx.ix1 q := ⟨i 0, ValueIdx.eq_ix1 i⟩
    have e := gTim_apply (t0 c) (t1 c) (hchk c) (m ((c : Thread nD τ).loc main_arg1)) q
    rw [ht] at e
    exact e

end Cert.KernelIdeal.Hand
end
-- ==== Proof.RefValues.lean ====
/- What the reference's updates and its row read hold, entry by entry, for a token that is in the table. -/
module

public import proofs.«01_k».proof.Proof.Gen.ReferenceIdeal
public import proofs.«01_k».proof.Proof.Spec
public import Idealize.ShloMosaic.Lib.Affine
public import Idealize.ShloMosaic.Lib.DynamicIndex
public import Idealize.ShloMosaic.Lib.Pointwise
public import Idealize.ShloMosaic.Lib.Routing.OpsOne
public import Idealize.ShloMosaic.Lib.Routing.OpsPair

@[expose] public section

noncomputable section

namespace Cert.ReferenceIdeal.Hand

open Cert.ReferenceIdeal Cert.ReferenceIdeal.Gen Cert.Hand
open Idealize.ShloMosaic Idealize.ShloMosaic.Tactic

/-! ## Index words -/

/-- An index that is not negative passes the wrap of negative indices unchanged. -/
theorem wrap_toInt (t n : IVec S_ 32) (i : S_.Idx) (h : 0 ≤ (t i).toInt) :
    (select (cmpi .slt t (constantI S_ 32 0#32)) (addi t n) t i).toInt = (t i).toInt := by
  rw [select_slt_zero_of_nonneg t _ _ i h]

/-- The token less 100000, read signed. -/
theorem sub_toInt (t : IVec S_ 32) (i : S_.Idx) (h0 : 100000 ≤ (t i).toInt) (h1 : (t i).toInt < 999936) :
    (subi t (constantI S_ 32 100000#32) i).toInt = (t i).toInt - 100000 := by
  have e : Affine.IsInt (subi t (constantI S_ 32 100000#32) i) ((t i).toInt - 100000) :=
    Affine.subi (Affine.word (t i)) (Affine.ofNat 100000 (by decide)) ⟨rfl, by omega, by omega⟩
  unfold Affine.IsInt at e
  exact e

/-! ## The updates at one index word -/

/-- Entry `r'` of the new row lands on entry `(q, r)` of the table exactly when `q` is the indexed row and `r` is `r'`. -/
theorem lands_row (idx : IVec S1 32) (k : Fin 900000) (hidx : (idx (ValueIdx.ix1 0)).toInt = (k.val : Int)) (r' r : Fin 64)
    (q : Fin 900000) :
    scatter_S900000x64_S1_S64_0_0_0_0.resultIdx? (ValueIdx.ix1 r') idx = some (ValueIdx.ix2 q r) ↔ q = k ∧ r' = r := by
  have hs0 : scatter_S900000x64_S1_S64_0_0_0_0.start (ValueIdx.ix1 r') idx 0 = (k.val : Int) := by
    rw [← hidx]
    exact congrArg (fun j => (idx j).toInt) (funext fun a => by match a with | ⟨0, _⟩ => exact Subsingleton.elim (α := Fin 1) _ _)
  have hs1 : scatter_S900000x64_S1_S64_0_0_0_0.start (ValueIdx.ix1 r') idx 1 = 0 := rfl
  have hw0 : scatter_S900000x64_S1_S64_0_0_0_0.window (ValueIdx.ix1 r') 0 = 0 := rfl
  have hw1 : scatter_S900000x64_S1_S64_0_0_0_0.window (ValueIdx.ix1 r') 1 = r'.val := rfl
  refine (Routing.resultIdx?_ix2 _ _ _ _ _).trans ?_
  rw [hs0, hs1, hw0, hw1, Fin.ext_iff, Fin.ext_iff]
  omega

/-- The table with one row overwritten. -/
theorem row_apply {α : Type} (x : S900000x64.Idx → α) (idx : IVec S1 32) (w : S64.Idx → α) (k : Fin 900000)
    (hidx : (idx (ValueIdx.ix1 0)).toInt = (k.val : Int)) (q : Fin 900000) (r : Fin 64) :
    Host.scatter scatter_S900000x64_S1_S64_0_0_0_0 (fun _ b => b) x idx w (ValueIdx.ix2 q r)
      = if q = k then w (ValueIdx.ix1 r) else x (ValueIdx.ix2 q r) := by
  have lands : ∀ j : S64.Idx, scatter_S900000x64_S1_S64_0_0_0_0.resultIdx? j idx = some (ValueIdx.ix2 q r) → q = k ∧ (j 0 : Fin 64) = r := by
    intro j hj
    rw [ValueIdx.eq_ix1 j] at hj
    exact (lands_row idx k hidx _ _ _).1 hj
  by_cases h : q = k
  · rw [if_pos h]
    refine Routing.scatter_set_hit _ x idx w _ _ (fun j hj => ?_) (ValueIdx.ix1 r) ((lands_row idx k hidx r r q).2 ⟨h, rfl⟩)
    exact (congrArg w (ValueIdx.eq_ix1 j)).trans (congrArg (fun y : Fin 64 => w (ValueIdx.ix1 y)) (lands j hj).2)
  · rw [if_neg h]
    exact Routing.scatter_set_miss _ x idx w _ fun j hj => h (lands j hj).1

/-- A vector with one entry updated by `f`. -/
theorem entry_apply {α : Type} (f : α → α → α) (x : S1000000.Idx → α) (idx : IVec S1 32) (u : S_.Idx → α) (k : Fin 1000000)
    (hidx : (idx (ValueIdx.ix1 0)).toInt = (k.val : Int)) (q : Fin 1000000) :
    Host.scatter scatter_S1000000_S1_S__n_0_0_0 f x idx u (ValueIdx.ix1 q)
      = if q = k then f (x (ValueIdx.ix1 q)) (u ValueIdx.ix0) else x (ValueIdx.ix1 q) := by
  rw [Routing.scatter_at]
  have hl : List.finRange S_.numel = [⟨0, by decide⟩] := by decide
  rw [hl, List.foldl_cons, List.foldl_nil, ValueIdx.eq_ix0 (S_.rowMajor.symm _)]
  exact if_congr (Routing.lands_one scatter_S1000000_S1_S__n_0_0_0 rfl rfl idx k hidx q) rfl rfl

/-! ## The four results -/

variable (t : IVec S_ 32) (h0 : 100000 ≤ (t ValueIdx.ix0).toInt) (h1 : (t ValueIdx.ix0).toInt < 999936)
include h0 h1

/-- The wrapped index of the token's row is the token less 100000. -/
theorem rowIdx (i : S_.Idx) : (select (cmpi .slt (subi t (constantI S_ 32 100000#32)) (constantI S_ 32 0#32))
    (addi (subi t (constantI S_ 32 100000#32)) (constantI S_ 32 900000#32)) (subi t (constantI S_ 32 100000#32)) i).toInt
    = (t ValueIdx.ix0).toInt - 100000 := by
  obtain rfl : i = ValueIdx.ix0 := ValueIdx.eq_ix0 i
  have e := sub_toInt t ValueIdx.ix0 h0 h1
  rw [wrap_toInt _ _ _ (by rw [e]; omega), e]

/-- The wrapped index of the token's entry is the token. -/
theorem wrapIdx (n : IVec S_ 32) (i : S_.Idx) : (select (cmpi .slt t (constantI S_ 32 0#32)) (addi t n) t i).toInt
    = (t ValueIdx.ix0).toInt := by
  obtain rfl : i = ValueIdx.ix0 := ValueIdx.eq_ix0 i
  exact wrap_toInt _ _ _ (by omega)

/-- The reference's table. -/
theorem table_eq (E : S900000x64.Idx → Ideal .f32) (w : S64.Idx → Ideal .f32) :
    Host.scatter scatter_S900000x64_S1_S64_0_0_0_0 (fun _ b => b) E (broadcastInDim S1 ![] bcast_S_S1
      (select (cmpi .slt (subi t (constantI S_ 32 100000#32)) (constantI S_ 32 0#32))
        (addi (subi t (constantI S_ 32 100000#32)) (constantI S_ 32 900000#32)) (subi t (constantI S_ 32 100000#32)))) w
      = newTable (t ValueIdx.ix0).toInt E w := by
  funext i
  obtain ⟨k, hk⟩ : ∃ k : Fin 900000, (k.val : ℤ) = (t ValueIdx.ix0).toInt - 100000 :=
    ⟨⟨((t ValueIdx.ix0).toInt - 100000).toNat, by omega⟩, by show (((t ValueIdx.ix0).toInt - 100000).toNat : ℤ) = _; omega⟩
  obtain ⟨q, r, rfl⟩ : ∃ (q : Fin 900000) (r : Fin 64), i = ValueIdx.ix2 q r := ⟨i 0, i 1, ValueIdx.eq_ix2 i⟩
  refine (row_apply E _ w k ?_ q r).trans ?_
  · refine Eq.trans ?_ hk.symm
    exact rowIdx t h0 h1 _
  show _ = if (q.val : ℤ) = (t ValueIdx.ix0).toInt - 100000 then w (ValueIdx.ix1 r) else E (ValueIdx.ix2 q r)
  refine if_congr ?_ rfl rfl
  rw [Fin.ext_iff]
  show q.val = k.val ↔ (q.val : ℤ) = _
  omega

/-- The row that is read back out of the new table at the token's row is the new row. -/
theorem readback_eq (E : S900000x64.Idx → Ideal .f32) (w : S64.Idx → Ideal .f32) (start : Fin 2 → ℤ)
    (hs0 : start 0 = (t ValueIdx.ix0).toInt - 100000) (hs1 : start 1 = 0) :
    shapeCast S64 (Host.dynamicSlice S1x64 (newTable (t ValueIdx.ix0).toInt E w) start sliceFits_S900000x64_S1x64)
      shapeCasts_S1x64_S64 = w := by
  rw [Host.dynamicSlice_eq_extractStridedSlice S1x64 _ _ ![((t ValueIdx.ix0).toInt - 100000).toNat, 0] _ (by
    refine ⟨rfl, fun a => ?_⟩
    match a with
    | ⟨0, _⟩ => show ((t ValueIdx.ix0).toInt - 100000).toNat + 1 ≤ 900000; omega
    | ⟨1, _⟩ => show 0 + 64 ≤ 64; omega) (by
    intro a
    match a with
    | ⟨0, _⟩ => refine hs0.trans ?_; show _ = (((t ValueIdx.ix0).toInt - 100000).toNat : ℤ); omega
    | ⟨1, _⟩ => exact hs1)]
  funext i
  obtain ⟨r, rfl⟩ : ∃ r : Fin 64, i = ValueIdx.ix1 r := ⟨i 0, ValueIdx.eq_ix1 i⟩
  pointwise
  exact if_pos (by show (((t ValueIdx.ix0).toInt - 100000).toNat : ℤ) = _; omega)

/-- The reference's usage vector. -/
theorem usage_eq (U : S1000000.Idx → Ideal .f32) (one : S_.Idx → Ideal .f32) :
    Host.scatter scatter_S1000000_S1_S__n_0_0_0 FloatOps.addf U (broadcastInDim S1 ![] bcast_S_S1
      (select (cmpi .slt t (constantI S_ 32 0#32)) (addi t (constantI S_ 32 1000000#32)) t)) one
      = newUsage (t ValueIdx.ix0).toInt (one ValueIdx.ix0) U := by
  funext i
  obtain ⟨k, hk⟩ : ∃ k : Fin 1000000, (k.val : ℤ) = (t ValueIdx.ix0).toInt :=
    ⟨⟨(t ValueIdx.ix0).toInt.toNat, by omega⟩, by show ((t ValueIdx.ix0).toInt.toNat : ℤ) = _; omega⟩
  obtain ⟨q, rfl⟩ : ∃ q : Fin 1000000, i = ValueIdx.ix1 q := ⟨i 0, ValueIdx.eq_ix1 i⟩
  refine (entry_apply FloatOps.addf U _ one k ?_ _).trans ?_
  · refine Eq.trans ?_ hk.symm
    exact wrapIdx t h0 h1 _ _
  refine if_congr ?_ rfl rfl
  rw [Fin.ext_iff]
  show q.val = k.val ↔ (q.val : ℤ) = _
  omega

/-- The reference's creation-time vector. -/
theorem times_eq (T : S1000000.Idx → Ideal .f32) (inf : S_.Idx → Ideal .f32) :
    Host.scatter scatter_S1000000_S1_S__n_0_0_0 (fun _ b => b) T (broadcastInDim S1 ![] bcast_S_S1
      (select (cmpi .slt t (constantI S_ 32 0#32)) (addi t (constantI S_ 32 1000000#32)) t)) inf
      = newTimes (t ValueIdx.ix0).toInt (inf ValueIdx.ix0) T := by
  funext i
  obtain ⟨k, hk⟩ : ∃ k : Fin 1000000, (k.val : ℤ) = (t ValueIdx.ix0).toInt :=
    ⟨⟨(t ValueIdx.ix0).toInt.toNat, by omega⟩, by show ((t ValueIdx.ix0).toInt.toNat : ℤ) = _; omega⟩
  obtain ⟨q, rfl⟩ : ∃ q : Fin 1000000, i = ValueIdx.ix1 q := ⟨i 0, ValueIdx.eq_ix1 i⟩
  refine (entry_apply (fun _ b => b) T _ inf k ?_ _).trans ?_
  · refine Eq.trans ?_ hk.symm
    exact wrapIdx t h0 h1 _ _
  refine if_congr ?_ rfl rfl
  rw [Fin.ext_iff]
  show q.val = k.val ↔ (q.val : ℤ) = _
  omega

end Cert.ReferenceIdeal.Hand
end
-- ==== Proof.RefRun.lean ====
/- The reference's run: its four results for a token that is in the table, its arguments and its counters. -/
module

public import proofs.«01_k».proof.Proof.RefValues
public import Idealize.ShloMosaic.Lib.Claim
public import Idealize.ShloMosaic.Lib.Quiescent
public import Idealize.ShloMosaic.Lib.StableHlo.ReadAt

@[expose] public section

noncomputable section

namespace Cert.ReferenceIdeal.Hand

open Cert.ReferenceIdeal Cert.ReferenceIdeal.Gen Cert.Hand
open Idealize.ShloMosaic Idealize.ShloMosaic.Tactic
open Idealize.SL.Sem

variable (m : (ℓ : Loc nD τ sig) → Buf (Elt Ideal) ℓ) (g : Dev nD → PrngReg)

/-- The reference runs and leaves its arguments as it found them; it declares no counter. -/
theorem frame : θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨h, sem_eq_zero_of_no_sems rfl r.2⟩) (Q := fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ?_
  hlo_run

/-- The token that device `c` is given. -/
abbrev tokens (c : Dev nD) : IVec S_ 32 := m ((c.tc : Thread nD τ).loc main_arg4)

variable (h0 : ∀ c, 100000 ≤ (tokens m c ValueIdx.ix0).toInt) (h1 : ∀ c, (tokens m c ValueIdx.ix0).toInt < 999936)
include h0 h1

/-- The reference's table, usage vector and creation-time vector. -/
theorem run_arrays : θ_run defs (onTc (τ := τ) (main (F := Ideal))) ⟨m, fun _ => 0, g⟩ (fun r => ∀ c : Dev nD,
      r.2.mem ((c.tc : Thread nD τ).loc main_v5)
        = newTable (F := Ideal) (tokens m c ValueIdx.ix0).toInt (m ((c.tc : Thread nD τ).loc main_arg2)) (m ((c.tc : Thread nD τ).loc main_arg3))
      ∧ r.2.mem ((c.tc : Thread nD τ).loc main_v15)
        = newUsage (F := Ideal) (tokens m c ValueIdx.ix0).toInt (FloatOps.ofBits .f32 0x3F800000#32) (m ((c.tc : Thread nD τ).loc main_arg0))
      ∧ r.2.mem ((c.tc : Thread nD τ).loc main_v10)
        = newTimes (F := Ideal) (tokens m c ValueIdx.ix0).toInt (FloatOps.ofBits .f32 0x7F800000#32) (m ((c.tc : Thread nD τ).loc main_arg1))) := by
  hlo_run
  · exact table_eq (tokens m c) (h0 c) (h1 c) _ _
  · exact usage_eq (tokens m c) (h0 c) (h1 c) _ (constant S_ .f32 0x3F800000#32)
  · exact times_eq (tokens m c) (h0 c) (h1 c) _ (constant S_ .f32 0x7F800000#32)

/-- The row that the reference reads back out of its table is the new row. -/
theorem run_row : θ_run defs (onTc (τ := τ) (main (F := Ideal))) ⟨m, fun _ => 0, g⟩ (fun r => ∀ c : Dev nD,
      r.2.mem ((c.tc : Thread nD τ).loc main_v23) = m ((c.tc : Thread nD τ).loc main_arg3)) := by
  hlo_run
  have e := table_eq (tokens m c) (h0 c) (h1 c) (m ((c.tc : Thread nD τ).loc main_arg2)) (m ((c.tc : Thread nD τ).loc main_arg3))
  erw [e]
  refine readback_eq (tokens m c) (h0 c) (h1 c) _ _ _ ?_ ?_
  · simp only [Matrix.cons_val_zero]
    after_results_simp
    exact rowIdx (tokens m c) (h0 c) (h1 c) _
  · simp only [Matrix.cons_val_one, Matrix.cons_val_zero]
    after_results_simp
    rfl

end Cert.ReferenceIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.BitsEnds
public import proofs.«01_k».proof.Proof.Results
public import proofs.«01_k».proof.Proof.RefRun
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The precondition states no side condition. -/
instance preFacts : Cert.Pre_token_in_table.Facts where

/-- The precondition, evaluated to one, says that the token lies from 100000 up to, but not at, 999936. -/
theorem token_of_pre {F : FTy → Type} [FloatOps F] (a b : FVec F Cert.Pre_token_in_table.S1000000 .f32)
    (e : FVec F Cert.Pre_token_in_table.S900000x64 .f32) (w : FVec F Cert.Pre_token_in_table.S64 .f32) (t : IVec Cert.Pre_token_in_table.S_ 32)
    (h : Cert.Pre_token_in_table.fn a b e w t = fun _ => 1#1) (i : Cert.Pre_token_in_table.S_.Idx) :
    100000 ≤ (t i).toInt ∧ (t i).toInt < 999936 := by
  have hi := congrFun h i
  have hb := IntOp.andi_eq_one.1 hi
  have h0 := IntOp.cmpi_sge.1 hb.1
  have h1 := IntOp.cmpi_slt.1 hb.2
  exact ⟨h0, h1⟩

/-- The kernel's program, at the hardware's floats, runs and leaves its arguments and the counters as it found them. -/
theorem frame_kernel : Cert.quiescent_Kernel := by
  intro m g hpre
  refine Cert.Kernel.Hand.frame m g fun c => ?_
  have ht := token_of_pre _ _ _ _ _ (hpre c) ValueIdx.ix0
  refine Cert.Kernel.Hand.chk1_of ?_ ?_ <;> rw [Cert.Kernel.Hand.tok_eq m c ValueIdx.ix0]
  · exact ht.1
  · exact ht.2

/-- The same over the reals. -/
theorem frame_ideal : Cert.quiescent_KernelIdeal := by
  intro m g hpre
  exact Cert.KernelIdeal.Hand.frame m g (Cert.KernelIdeal.Hand.chk_of m
    (fun c => (token_of_pre _ _ _ _ _ (hpre c) ValueIdx.ix0).1) (fun c => (token_of_pre _ _ _ _ _ (hpre c) ValueIdx.ix0).2))

/-- The reference runs and leaves its arguments and the counters as it found them. -/
theorem frame_reference : Cert.quiescent_ReferenceIdeal := fun m g _ => Cert.ReferenceIdeal.Hand.frame m g

/-- The same under the precondition. -/
theorem frame_reference_pre : Cert.quiescent_ReferenceIdeal_pre_token_in_table := fun m g _ => frame_reference m g trivial

/-- Over the reals the kernel's program and the reference end with the same four results. -/
theorem algebraic : Cert.algebraic_KernelIdeal_ReferenceIdeal := by
  intro m g m' g' hpre hag
  have h0 : ∀ c, 100000 ≤ Cert.KernelIdeal.Hand.argTok m c := fun c => (token_of_pre _ _ _ _ _ (hpre c) ValueIdx.ix0).1
  have h1 : ∀ c, Cert.KernelIdeal.Hand.argTok m c < 999936 := fun c => (token_of_pre _ _ _ _ _ (hpre c) ValueIdx.ix0).2
  have ht : ∀ c, (Cert.ReferenceIdeal.Hand.tokens m' c ValueIdx.ix0).toInt = Cert.KernelIdeal.Hand.argTok m c := fun c =>
    congrArg (fun t : Cert.ReferenceIdeal.S_.Idx → BitVec 32 => (t ValueIdx.ix0).toInt) (hag c).2.2.2.2
  have r0 : ∀ c, 100000 ≤ (Cert.ReferenceIdeal.Hand.tokens m' c ValueIdx.ix0).toInt := fun c => by rw [ht]; exact h0 c
  have r1 : ∀ c, (Cert.ReferenceIdeal.Hand.tokens m' c ValueIdx.ix0).toInt < 999936 := fun c => by rw [ht]; exact h1 c
  refine ⟨_, _, _, _,
    (θ_run _ _ _).mono (fun r h c => ⟨(h.1 c).1, (h.1 c).2.1, (h.1 c).2.2.1, (h.1 c).2.2.2, h.2.1 c⟩)
      (θ_run_and (Cert.KernelIdeal.Hand.results m g h0 h1)
        (Cert.KernelIdeal.Hand.frame m g (Cert.KernelIdeal.Hand.chk_of m h0 h1))),
    (θ_run _ _ _).mono (fun r h c => ⟨?_, ?_, ?_, ?_, h.2.2.1 c⟩)
      (θ_run_and (Cert.ReferenceIdeal.Hand.run_row m' g' r0 r1)
        (θ_run_and (Cert.ReferenceIdeal.Hand.run_arrays m' g' r0 r1) (Cert.ReferenceIdeal.Hand.frame m' g')))⟩
  · exact (h.1 c).trans (hag c).2.2.2.1
  · have e := (h.2.1 c).1
    rw [ht, (hag c).2.2.1, (hag c).2.2.2.1] at e
    exact e
  · have e := (h.2.1 c).2.1
    rw [ht, (hag c).1] at e
    exact e
  · have e := (h.2.1 c).2.2
    rw [ht, (hag c).2.1] at e
    exact e

/-- Every claim of this directory. -/
theorem claim : Cert.Claim := ⟨Cert.Kernel.Gen.facts, Cert.KernelIdeal.Gen.facts, Cert.ReferenceIdeal.Gen.facts, preFacts,
  frame_kernel, frame_ideal, frame_reference, frame_reference_pre, trivial, algebraic⟩

end Cert.Proof

end
